-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S16x1x4x128 : Shape := ⟨4, ![16, 1, 4, 128]⟩
abbrev S16x4x8064x64 : Shape := ⟨4, ![16, 4, 8064, 64]⟩
abbrev S16x4x252x128 : Shape := ⟨4, ![16, 4, 252, 128]⟩
abbrev S16x4x8064x4 : Shape := ⟨4, ![16, 4, 8064, 4]⟩
abbrev S16x4x128x128 : Shape := ⟨4, ![16, 4, 128, 128]⟩
abbrev S16x32x128 : Shape := ⟨3, ![16, 32, 128]⟩
abbrev S16x4x128 : Shape := ⟨3, ![16, 4, 128]⟩
abbrev S16x4x64x8064 : Shape := ⟨4, ![16, 4, 64, 8064]⟩
abbrev S16x252x4x128 : Shape := ⟨4, ![16, 252, 4, 128]⟩
abbrev S16x1008x128 : Shape := ⟨3, ![16, 1008, 128]⟩
abbrev S16x4x4x8064 : Shape := ⟨4, ![16, 4, 4, 8064]⟩
abbrev S1x8x128 : Shape := ⟨3, ![1, 8, 128]⟩
abbrev S1x4x128 : Shape := ⟨3, ![1, 4, 128]⟩
abbrev S1x1x64x8064 : Shape := ⟨4, ![1, 1, 64, 8064]⟩
abbrev S1x1008x128 : Shape := ⟨3, ![1, 1008, 128]⟩
abbrev S1x1x4x8064 : Shape := ⟨4, ![1, 1, 4, 8064]⟩
abbrev S1x1x128x128 : Shape := ⟨4, ![1, 1, 128, 128]⟩
abbrev S128x1024 : Shape := ⟨2, ![128, 1024]⟩
abbrev S8x8192 : Shape := ⟨2, ![8, 8192]⟩
abbrev S128x128 : Shape := ⟨2, ![128, 128]⟩
abbrev S1008x128 : Shape := ⟨2, ![1008, 128]⟩
abbrev S128x1008 : Shape := ⟨2, ![128, 1008]⟩
abbrev S4x128 : Shape := ⟨2, ![4, 128]⟩
abbrev S8x128 : Shape := ⟨2, ![8, 128]⟩
abbrev S1x1x64x128 : Shape := ⟨4, ![1, 1, 64, 128]⟩
abbrev S64x128 : Shape := ⟨2, ![64, 128]⟩
abbrev S64x1x128 : Shape := ⟨3, ![64, 1, 128]⟩
abbrev S64x2x128 : Shape := ⟨3, ![64, 2, 128]⟩
abbrev S128x128x1 : Shape := ⟨3, ![128, 128, 1]⟩
abbrev S128x256 : Shape := ⟨2, ![128, 256]⟩
abbrev S8x256 : Shape := ⟨2, ![8, 256]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S128x8 : Shape := ⟨2, ![128, 8]⟩
abbrev S32x128 : Shape := ⟨2, ![32, 128]⟩
abbrev S1x1x1x128 : Shape := ⟨4, ![1, 1, 1, 128]⟩
abbrev S16x4x1x128 : Shape := ⟨4, ![16, 4, 1, 128]⟩

abbrev nBuf : Space → Nat
  | .hbm => 28
  | .vmem => 31
  | .smem => 0
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x4x8064x64, .i8⟩
  | .hbm, ⟨4, _⟩ => ⟨S16x4x252x128, .bf16⟩
  | .hbm, ⟨5, _⟩ => ⟨S16x4x252x128, .bf16⟩
  | .hbm, ⟨6, _⟩ => ⟨S16x4x8064x64, .i8⟩
  | .hbm, ⟨7, _⟩ => ⟨S16x4x8064x4, .bf16⟩
  | .hbm, ⟨8, _⟩ => ⟨S16x4x8064x4, .bf16⟩
  | .hbm, ⟨9, _⟩ => ⟨S16x4x128x128, .bf16⟩
  | .hbm, ⟨10, _⟩ => ⟨S16x4x128x128, .bf16⟩
  | .hbm, ⟨11, _⟩ => ⟨S16x32x128, .f32⟩
  | .hbm, ⟨12, _⟩ => ⟨S16x4x128, .f32⟩
  | .hbm, ⟨13, _⟩ => ⟨S16x4x128, .f32⟩
  | .hbm, ⟨14, _⟩ => ⟨S16x4x64x8064, .i8⟩
  | .hbm, ⟨15, _⟩ => ⟨S16x4x64x8064, .i8⟩
  | .hbm, ⟨16, _⟩ => ⟨S16x252x4x128, .bf16⟩
  | .hbm, ⟨17, _⟩ => ⟨S16x1008x128, .bf16⟩
  | .hbm, ⟨18, _⟩ => ⟨S16x252x4x128, .bf16⟩
  | .hbm, ⟨19, _⟩ => ⟨S16x1008x128, .bf16⟩
  | .hbm, ⟨20, _⟩ => ⟨S16x4x4x8064, .bf16⟩
  | .hbm, ⟨21, _⟩ => ⟨S16x4x4x8064, .bf16⟩
  | .hbm, ⟨22, _⟩ => ⟨S16x32x128, .f32⟩
  | .hbm, ⟨23, _⟩ => ⟨S16x4x128, .bf16⟩
  | .hbm, ⟨24, _⟩ => ⟨S16x4x128, .bf16⟩
  | .hbm, ⟨25, _⟩ => ⟨S16x1x4096, .f32⟩
  | .hbm, ⟨26, _⟩ => ⟨S16x4x1x128, .bf16⟩
  | .hbm, ⟨27, _⟩ => ⟨S16x4x1x128, .bf16⟩
  | .local _ .vmem, ⟨0, _⟩ => ⟨S1x8x128, .f32⟩
  | .local _ .vmem, ⟨1, _⟩ => ⟨S1x8x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x1x64x8064, .i8⟩
  | .local _ .vmem, ⟨7, _⟩ => ⟨S1x1x64x8064, .i8⟩
  | .local _ .vmem, ⟨8, _⟩ => ⟨S1x1008x128, .bf16⟩
  | .local _ .vmem, ⟨9, _⟩ => ⟨S1x1008x128, .bf16⟩
  | .local _ .vmem, ⟨10, _⟩ => ⟨S1x1008x128, .bf16⟩
  | .local _ .vmem, ⟨11, _⟩ => ⟨S1x1008x128, .bf16⟩
  | .local _ .vmem, ⟨12, _⟩ => ⟨S1x1x64x8064, .i8⟩
  | .local _ .vmem, ⟨13, _⟩ => ⟨S1x1x64x8064, .i8⟩
  | .local _ .vmem, ⟨14, _⟩ => ⟨S1x1x4x8064, .bf16⟩
  | .local _ .vmem, ⟨15, _⟩ => ⟨S1x1x4x8064, .bf16⟩
  | .local _ .vmem, ⟨16, _⟩ => ⟨S1x1x4x8064, .bf16⟩
  | .local _ .vmem, ⟨17, _⟩ => ⟨S1x1x4x8064, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S1x1x128x128, .bf16⟩
  | .local _ .vmem, ⟨21, _⟩ => ⟨S1x1x128x128, .bf16⟩
  | .local _ .vmem, ⟨22, _⟩ => ⟨S1x8x128, .f32⟩
  | .local _ .vmem, ⟨23, _⟩ => ⟨S1x8x128, .f32⟩
  | .local _ .vmem, ⟨24, _⟩ => ⟨S1x4x128, .bf16⟩
  | .local _ .vmem, ⟨25, _⟩ => ⟨S1x4x128, .bf16⟩
  | .local _ .vmem, ⟨26, _⟩ => ⟨S1x4x128, .bf16⟩
  | .local _ .vmem, ⟨27, _⟩ => ⟨S1x4x128, .bf16⟩
  | .local _ .vmem, ⟨28, _⟩ => ⟨S128x1024, .bf16⟩
  | .local _ .vmem, ⟨29, _⟩ => ⟨S128x1024, .bf16⟩
  | .local _ .vmem, ⟨30, _⟩ => ⟨S8x8192, .f32⟩
  | _, _ => ⟨S16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0_1172 : Index := 0#32
  let arg1 : BitVec 32 := BitVec.ofNat 32 (i 1).val
  let v3220 : Index := Scalar.indexCast arg1
  let c0_1173 : Index := 0#32
  ![0, v3220.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x8064 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1008x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1008x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64x8064 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x8064 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x8064 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16x1x4096 : Shape := ⟨3, ![16, 1, 4096]⟩
abbrev S16x1x4x128 : Shape := ⟨4, ![16, 1, 4, 128]⟩
abbrev S16x4x8064x64 : Shape := ⟨4, ![16, 4, 8064, 64]⟩
abbrev S16x4x252x128 : Shape := ⟨4, ![16, 4, 252, 128]⟩
abbrev S16x4x8064x4 : Shape := ⟨4, ![16, 4, 8064, 4]⟩
abbrev S16x4x128x128 : Shape := ⟨4, ![16, 4, 128, 128]⟩
abbrev S16x1x4x8x128 : Shape := ⟨5, ![16, 1, 4, 8, 128]⟩
abbrev S16x4x8x1x128 : Shape := ⟨5, ![16, 4, 8, 1, 128]⟩
abbrev S16x4x1x128 : Shape := ⟨4, ![16, 4, 1, 128]⟩
abbrev S_ : Shape := ⟨0, ![]⟩
abbrev S16x4x8064x64x1 : Shape := ⟨5, ![16, 4, 8064, 64, 1]⟩
abbrev S16x4x8064x64x2 : Shape := ⟨5, ![16, 4, 8064, 64, 2]⟩
abbrev S16x4x8064x128 : Shape := ⟨4, ![16, 4, 8064, 128]⟩
abbrev S16x4x252x32x128 : Shape := ⟨5, ![16, 4, 252, 32, 128]⟩
abbrev S16x4x252x1x128 : Shape := ⟨5, ![16, 4, 252, 1, 128]⟩
abbrev S16x4x8193x128 : Shape := ⟨4, ![16, 4, 8193, 128]⟩
abbrev S16x4x8064x4x32 : Shape := ⟨5, ![16, 4, 8064, 4, 32]⟩
abbrev S16x4x8064x4x1 : Shape := ⟨5, ![16, 4, 8064, 4, 1]⟩
abbrev S16x4x8x1x8193 : Shape := ⟨5, ![16, 4, 8, 1, 8193]⟩
abbrev S8193 : Shape := ⟨1, ![8193]⟩
abbrev S1 : Shape := ⟨1, ![1]⟩
abbrev S1x8193 : Shape := ⟨2, ![1, 8193]⟩
abbrev S1x1 : Shape := ⟨2, ![1, 1]⟩
abbrev S16x4x8x1 : Shape := ⟨4, ![16, 4, 8, 1]⟩
abbrev S16x4x8x1x1 : Shape := ⟨5, ![16, 4, 8, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x4x8064x64, .i8⟩
  | .hbm, ⟨4, _⟩ => ⟨S16x4x252x128, .bf16⟩
  | .hbm, ⟨5, _⟩ => ⟨S16x4x252x128, .bf16⟩
  | .hbm, ⟨6, _⟩ => ⟨S16x4x8064x64, .i8⟩
  | .hbm, ⟨7, _⟩ => ⟨S16x4x8064x4, .bf16⟩
  | .hbm, ⟨8, _⟩ => ⟨S16x4x8064x4, .bf16⟩
  | .hbm, ⟨9, _⟩ => ⟨S16x4x128x128, .bf16⟩
  | .hbm, ⟨10, _⟩ => ⟨S16x4x128x128, .bf16⟩
  | .hbm, ⟨11, _⟩ => ⟨S16x1x4x8x128, .f32⟩
  | .hbm, ⟨12, _⟩ => ⟨S16x4x8x1x128, .f32⟩
  | .hbm, ⟨13, _⟩ => ⟨S16x4x8x1x128, .bf16⟩
  | .hbm, ⟨14, _⟩ => ⟨S16x4x1x128, .f32⟩
  | .hbm, ⟨15, _⟩ => ⟨S16x4x1x128, .bf16⟩
  | .hbm, ⟨16, _⟩ => ⟨S16x4x1x128, .f32⟩
  | .hbm, ⟨17, _⟩ => ⟨S16x4x1x128, .bf16⟩
  | .hbm, ⟨18, _⟩ => ⟨S16x4x8064x64, .i32⟩
  | .hbm, ⟨19, _⟩ => ⟨S_, .i32⟩
  | .hbm, ⟨20, _⟩ => ⟨S16x4x8064x64, .i32⟩
  | .hbm, ⟨21, _⟩ => ⟨S16x4x8064x64, .i32⟩
  | .hbm, ⟨22, _⟩ => ⟨S_, .i32⟩
  | .hbm, ⟨23, _⟩ => ⟨S16x4x8064x64, .i32⟩
  | .hbm, ⟨24, _⟩ => ⟨S16x4x8064x64, .i32⟩
  | .hbm, ⟨25, _⟩ => ⟨S16x4x8064x64x1, .i32⟩
  | .hbm, ⟨26, _⟩ => ⟨S16x4x8064x64x1, .i32⟩
  | .hbm, ⟨27, _⟩ => ⟨S16x4x8064x64x2, .i32⟩
  | .hbm, ⟨28, _⟩ => ⟨S16x4x8064x128, .i32⟩
  | .hbm, ⟨29, _⟩ => ⟨S16x4x8064x128, .bf16⟩
  | .hbm, ⟨30, _⟩ => ⟨S16x4x252x32x128, .bf16⟩
  | .hbm, ⟨31, _⟩ => ⟨S16x4x252x1x128, .bf16⟩
  | .hbm, ⟨32, _⟩ => ⟨S16x4x252x32x128, .bf16⟩
  | .hbm, ⟨33, _⟩ => ⟨S16x4x252x32x128, .bf16⟩
  | .hbm, ⟨34, _⟩ => ⟨S16x4x252x1x128, .bf16⟩
  | .hbm, ⟨35, _⟩ => ⟨S16x4x252x32x128, .bf16⟩
  | .hbm, ⟨36, _⟩ => ⟨S16x4x252x32x128, .bf16⟩
  | .hbm, ⟨37, _⟩ => ⟨S16x4x8064x128, .bf16⟩
  | .hbm, ⟨38, _⟩ => ⟨S16x4x8193x128, .bf16⟩
  | .hbm, ⟨39, _⟩ => ⟨S16x4x8064x64, .i32⟩
  | .hbm, ⟨40, _⟩ => ⟨S_, .i32⟩
  | .hbm, ⟨41, _⟩ => ⟨S16x4x8064x64, .i32⟩
  | .hbm, ⟨42, _⟩ => ⟨S16x4x8064x64, .i32⟩
  | .hbm, ⟨43, _⟩ => ⟨S_, .i32⟩
  | .hbm, ⟨44, _⟩ => ⟨S16x4x8064x64, .i32⟩
  | .hbm, ⟨45, _⟩ => ⟨S16x4x8064x64, .i32⟩
  | .hbm, ⟨46, _⟩ => ⟨S16x4x8064x64x1, .i32⟩
  | .hbm, ⟨47, _⟩ => ⟨S16x4x8064x64x1, .i32⟩
  | .hbm, ⟨48, _⟩ => ⟨S16x4x8064x64x2, .i32⟩
  | .hbm, ⟨49, _⟩ => ⟨S16x4x8064x128, .i32⟩
  | .hbm, ⟨50, _⟩ => ⟨S16x4x8064x128, .bf16⟩
  | .hbm, ⟨51, _⟩ => ⟨S16x4x8064x4x32, .bf16⟩
  | .hbm, ⟨52, _⟩ => ⟨S16x4x8064x4x1, .bf16⟩
  | .hbm, ⟨53, _⟩ => ⟨S16x4x8064x4x32, .bf16⟩
  | .hbm, ⟨54, _⟩ => ⟨S16x4x8064x4x32, .bf16⟩
  | .hbm, ⟨55, _⟩ => ⟨S16x4x8064x4x1, .bf16⟩
  | .hbm, ⟨56, _⟩ => ⟨S16x4x8064x4x32, .bf16⟩
  | .hbm, ⟨57, _⟩ => ⟨S16x4x8064x4x32, .bf16⟩
  | .hbm, ⟨58, _⟩ => ⟨S16x4x8064x128, .bf16⟩
  | .hbm, ⟨59, _⟩ => ⟨S16x4x8193x128, .bf16⟩
  | .hbm, ⟨60, _⟩ => ⟨S16x4x8x1x8193, .f32⟩
  | .hbm, ⟨61, _⟩ => ⟨S_, .f32⟩
  | .hbm, ⟨62, _⟩ => ⟨S16x4x8x1x8193, .f32⟩
  | .hbm, ⟨63, _⟩ => ⟨S16x4x8x1x8193, .f32⟩
  | .hbm, ⟨64, _⟩ => ⟨S8193, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S1x8193, .i32⟩
  | .hbm, ⟨70, _⟩ => ⟨S1x1, .i32⟩
  | .hbm, ⟨71, _⟩ => ⟨S1x8193, .i32⟩
  | .hbm, ⟨72, _⟩ => ⟨S1x8193, .i1⟩
  | .hbm, ⟨73, _⟩ => ⟨S_, .f32⟩
  | .hbm, ⟨74, _⟩ => ⟨S_, .f32⟩
  | .hbm, ⟨75, _⟩ => ⟨S16x4x8x1x8193, .i1⟩
  | .hbm, ⟨76, _⟩ => ⟨S16x4x8x1x8193, .f32⟩
  | .hbm, ⟨77, _⟩ => ⟨S16x4x8x1x8193, .f32⟩
  | .hbm, ⟨78, _⟩ => ⟨S_, .f32⟩
  | .hbm, ⟨79, _⟩ => ⟨S16x4x8x1, .f32⟩
  | .hbm, ⟨80, _⟩ => ⟨S16x4x8x1x1, .f32⟩
  | .hbm, ⟨81, _⟩ => ⟨S16x4x8x1x8193, .f32⟩
  | .hbm, ⟨82, _⟩ => ⟨S16x4x8x1x8193, .f32⟩
  | .hbm, ⟨83, _⟩ => ⟨S16x4x8x1x8193, .f32⟩
  | .hbm, ⟨84, _⟩ => ⟨S_, .f32⟩
  | .hbm, ⟨85, _⟩ => ⟨S16x4x8x1, .f32⟩
  | .hbm, ⟨86, _⟩ => ⟨S16x4x8x1x1, .f32⟩
  | .hbm, ⟨87, _⟩ => ⟨S16x4x8x1x8193, .bf16⟩
  | .hbm, ⟨88, _⟩ => ⟨S16x4x8x1x128, .f32⟩
  | .hbm, ⟨89, _⟩ => ⟨S16x4x8x1x128, .f32⟩
  | .hbm, ⟨90, _⟩ => ⟨S16x4x8x1x128, .f32⟩
  | .hbm, ⟨91, _⟩ => ⟨S16x1x4x8x128, .f32⟩
  | .hbm, ⟨92, _⟩ => ⟨S16x1x4096, .f32⟩
  | _, _ => ⟨S16x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Proof.Kernel.Blocks.lean ====
/- The pipeline's windows, read at a point of the grid: point `t` is head `t % 4` of batch `t / 4`. -/
module

public import proofs.«01_k».proof.Proof.Gen.Kernel.Frame
public import Idealize.ShloMosaic.Lib.ValueLayout

@[expose] public section

noncomputable section

namespace Cert.Kernel.Body

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-- The batch of a point. -/
def bat (t : Fin cfg0.N) : Fin 16 := ⟨t.val / 4, by have h : t.val < 64 := lt_of_lt_of_eq t.isLt (show cfg0.N = 64 from N_0); omega⟩

/-- The head of a point. -/
def hd (t : Fin cfg0.N) : Fin 4 := ⟨t.val % 4, by omega⟩

theorem coords0 (t : Fin cfg0.N) : (grid0.coords t 0).val = (bat t).val := by
  have h : t.val < 64 := lt_of_lt_of_eq t.isLt (show cfg0.N = 64 from N_0)
  rw [Pipeline.Grid.coords_val t 0 (S := 4) (B := 16) (by decide) rfl]
  show t.val / 4 % 16 = t.val / 4
  omega

theorem coords1 (t : Fin cfg0.N) : (grid0.coords t 1).val = (hd t).val := by
  rw [Pipeline.Grid.coords_val t 1 (S := 1) (B := 4) (by decide) rfl]
  show t.val / 1 % 4 = t.val % 4
  omega

theorem idx0 (t : Fin cfg0.N) : (BitVec.ofNat 32 (grid0.coords t 0).val).toNat = (bat t).val := by
  rw [coords0, BitVec.toNat_ofNat]
  have := (bat t).isLt
  omega

theorem idx1 (t : Fin cfg0.N) : (BitVec.ofNat 32 (grid0.coords t 1).val).toNat = (hd t).val := by
  rw [coords1, BitVec.toNat_ofNat]
  have := (hd t).isLt
  omega

/-- Window 0's block at a point, read off its array. -/
theorem iblk0 (c : Dev nD) (t : Fin cfg0.N) :
    iblk m c 0 t = fun x : S1x8x128.Idx => V m c main_v0 (ix3 (bat t) ⟨8 * (hd t).val + (x 1).val, by have h1 : (x 1).val < 8 := (x 1).isLt; have h2 := (hd t).isLt; omega⟩ (x 2)) := by
  funext x
  unfold iblk
  rw [View.read_apply]
  show V m c main_v0 _ = V m c main_v0 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 8 + 1 * (x 1).val = 8 * (hd t).val + (x 1).val; rw [idx1]; omega
  | ⟨2, _⟩ => show 0 * 128 + 1 * (x 2).val = (x 2).val; omega

/-- Window 1's block at a point, read off its array. -/
theorem iblk1 (c : Dev nD) (t : Fin cfg0.N) :
    iblk m c 1 t = fun x : S1x4x128.Idx => V m c main_v1 (ix3 (bat t) (x 1) (x 2)) := by
  funext x
  unfold iblk
  rw [View.read_apply]
  show V m c main_v1 _ = V m c main_v1 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 4 + 1 * (x 1).val = (x 1).val; omega
  | ⟨2, _⟩ => show 0 * 128 + 1 * (x 2).val = (x 2).val; omega

/-- Window 2's block at a point, read off its array. -/
theorem iblk2 (c : Dev nD) (t : Fin cfg0.N) :
    iblk m c 2 t = fun x : S1x4x128.Idx => V m c main_v2 (ix3 (bat t) (x 1) (x 2)) := by
  funext x
  unfold iblk
  rw [View.read_apply]
  show V m c main_v2 _ = V m c main_v2 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 4 + 1 * (x 1).val = (x 1).val; omega
  | ⟨2, _⟩ => show 0 * 128 + 1 * (x 2).val = (x 2).val; omega

/-- Window 3's block at a point, read off its array. -/
theorem iblk3 (c : Dev nD) (t : Fin cfg0.N) :
    iblk m c 3 t = fun x : S1x1x64x8064.Idx => V m c main_v3 (ix4 (bat t) (hd t) (x 2) (x 3)) := by
  funext x
  unfold iblk
  rw [View.read_apply]
  show V m c main_v3 _ = V m c main_v3 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 64 + 1 * (x 2).val = (x 2).val; omega
  | ⟨3, _⟩ => show 0 * 8064 + 1 * (x 3).val = (x 3).val; omega

/-- Window 4's block at a point, read off its array. -/
theorem iblk4 (c : Dev nD) (t : Fin cfg0.N) :
    iblk m c 4 t = fun x : S1x1008x128.Idx => V m c main_v6 (ix3 (bat t) (x 1) (x 2)) := by
  funext x
  unfold iblk
  rw [View.read_apply]
  show V m c main_v6 _ = V m c main_v6 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 1008 + 1 * (x 1).val = (x 1).val; omega
  | ⟨2, _⟩ => show 0 * 128 + 1 * (x 2).val = (x 2).val; omega

/-- Window 5's block at a point, read off its array. -/
theorem iblk5 (c : Dev nD) (t : Fin cfg0.N) :
    iblk m c 5 t = fun x : S1x1008x128.Idx => V m c main_v8 (ix3 (bat t) (x 1) (x 2)) := by
  funext x
  unfold iblk
  rw [View.read_apply]
  show V m c main_v8 _ = V m c main_v8 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 1008 + 1 * (x 1).val = (x 1).val; omega
  | ⟨2, _⟩ => show 0 * 128 + 1 * (x 2).val = (x 2).val; omega

/-- Window 6's block at a point, read off its array. -/
theorem iblk6 (c : Dev nD) (t : Fin cfg0.N) :
    iblk m c 6 t = fun x : S1x1x64x8064.Idx => V m c main_v4 (ix4 (bat t) (hd t) (x 2) (x 3)) := by
  funext x
  unfold iblk
  rw [View.read_apply]
  show V m c main_v4 _ = V m c main_v4 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 64 + 1 * (x 2).val = (x 2).val; omega
  | ⟨3, _⟩ => show 0 * 8064 + 1 * (x 3).val = (x 3).val; omega

/-- Window 7's block at a point, read off its array. -/
theorem iblk7 (c : Dev nD) (t : Fin cfg0.N) :
    iblk m c 7 t = fun x : S1x1x4x8064.Idx => V m c main_v9 (ix4 (bat t) (hd t) (x 2) (x 3)) := by
  funext x
  unfold iblk
  rw [View.read_apply]
  show V m c main_v9 _ = V m c main_v9 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 4 + 1 * (x 2).val = (x 2).val; omega
  | ⟨3, _⟩ => show 0 * 8064 + 1 * (x 3).val = (x 3).val; omega

/-- Window 8's block at a point, read off its array. -/
theorem iblk8 (c : Dev nD) (t : Fin cfg0.N) :
    iblk m c 8 t = fun x : S1x1x4x8064.Idx => V m c main_v10 (ix4 (bat t) (hd t) (x 2) (x 3)) := by
  funext x
  unfold iblk
  rw [View.read_apply]
  show V m c main_v10 _ = V m c main_v10 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 4 + 1 * (x 2).val = (x 2).val; omega
  | ⟨3, _⟩ => show 0 * 8064 + 1 * (x 3).val = (x 3).val; omega

/-- Window 9's block at a point, read off its array. -/
theorem iblk9 (c : Dev nD) (t : Fin cfg0.N) :
    iblk m c 9 t = fun x : S1x1x128x128.Idx => V m c main_arg9 (ix4 (bat t) (hd t) (x 2) (x 3)) := by
  funext x
  unfold iblk
  rw [View.read_apply]
  show V m c main_arg9 _ = V m c main_arg9 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 128 + 1 * (x 2).val = (x 2).val; omega
  | ⟨3, _⟩ => show 0 * 128 + 1 * (x 3).val = (x 3).val; omega

/-- Window 10's block at a point, read off its array. -/
theorem iblk10 (c : Dev nD) (t : Fin cfg0.N) :
    iblk m c 10 t = fun x : S1x1x128x128.Idx => V m c main_arg10 (ix4 (bat t) (hd t) (x 2) (x 3)) := by
  funext x
  unfold iblk
  rw [View.read_apply]
  show V m c main_arg10 _ = V m c main_arg10 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 128 + 1 * (x 2).val = (x 2).val; omega
  | ⟨3, _⟩ => show 0 * 128 + 1 * (x 3).val = (x 3).val; omega

/-- Window 1's block is the same at the points of a batch. -/
theorem iblk1_bat (c : Dev nD) (t t' : Fin cfg0.N) (h : bat t = bat t') : iblk m c 1 t = iblk m c 1 t' := by
  rw [iblk1, iblk1, h]

/-- Window 2's block is the same at the points of a batch. -/
theorem iblk2_bat (c : Dev nD) (t t' : Fin cfg0.N) (h : bat t = bat t') : iblk m c 2 t = iblk m c 2 t' := by
  rw [iblk2, iblk2, h]

/-- Window 4's block is the same at the points of a batch. -/
theorem iblk4_bat (c : Dev nD) (t t' : Fin cfg0.N) (h : bat t = bat t') : iblk m c 4 t = iblk m c 4 t' := by
  rw [iblk4, iblk4, h]

/-- Window 5's block is the same at the points of a batch. -/
theorem iblk5_bat (c : Dev nD) (t t' : Fin cfg0.N) (h : bat t = bat t') : iblk m c 5 t = iblk m c 5 t' := by
  rw [iblk5, iblk5, h]

end Cert.Kernel.Body

end
-- ==== Proof.Kernel.Body.lean ====
/- The kernel's body as a program over tiles: the printed body is one long sequence of statements, the same
   few operations once per tile of 128 positions. Here the operations of a tile are written once (`kTile`, `vTile`),
   the loops over the tiles are recursions (`kLoop`, `vLoop`), and `body_eq` says the printed body is that program. -/
module

public import proofs.«01_k».proof.Proof.Gen.Kernel

@[expose] public section

set_option synthInstance.maxSize 4096

noncomputable section

namespace Cert.Kernel.Body

open Idealize.ShloMosaic Idealize.SL.Sem Cert.Kernel
open Facts₀ Facts

variable {F : FTy → Type} [FloatOps F]

/-- The operands of the body: the fourteen staging buffers and the three scratch buffers, each a whole buffer. -/
structure Refs where
  (arg2 : Memref sig .tc .vmem S1x8x128 .f32) (harg2 : arg2.IsWhole)
  (arg3 : Memref sig .tc .vmem S1x4x128 .f32) (harg3 : arg3.IsWhole)
  (arg4 : Memref sig .tc .vmem S1x4x128 .f32) (harg4 : arg4.IsWhole)
  (arg5 : Memref sig .tc .vmem S1x1x64x8064 .i8) (harg5 : arg5.IsWhole)
  (arg6 : Memref sig .tc .vmem S1x1008x128 .bf16) (harg6 : arg6.IsWhole)
  (arg7 : Memref sig .tc .vmem S1x1008x128 .bf16) (harg7 : arg7.IsWhole)
  (arg8 : Memref sig .tc .vmem S1x1x64x8064 .i8) (harg8 : arg8.IsWhole)
  (arg9 : Memref sig .tc .vmem S1x1x4x8064 .bf16) (harg9 : arg9.IsWhole)
  (arg10 : Memref sig .tc .vmem S1x1x4x8064 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .f32) (harg13 : arg13.IsWhole)
  (arg14 : Memref sig .tc .vmem S1x4x128 .bf16) (harg14 : arg14.IsWhole)
  (arg15 : Memref sig .tc .vmem S1x4x128 .bf16) (harg15 : arg15.IsWhole)
  (arg16 : Memref sig .tc .vmem S128x1024 .bf16) (harg16 : arg16.IsWhole)
  (arg17 : Memref sig .tc .vmem S128x1024 .bf16) (harg17 : arg17.IsWhole)
  (arg18 : Memref sig .tc .vmem S8x8192 .f32) (harg18 : arg18.IsWhole)

/-- A program of the kernel, returning nothing. -/
abbrev P (F : FTy → Type) [FloatOps F] := Prog (TpuEff nD τ sig (Elt F) Λ₀ .tc) PUnit

/-! ## What one tile computes -/

/-- A tile of packed codes, widened to 32-bit words. -/
def wide (w : Vec F S1x1x64x128 .i8) : IVec S64x128 32 := extui 32 (shapeCast S64x128 w shapeCasts_S1x1x64x128_S64x128) natLt_8_32

/-- The 4-bit codes of a tile: each byte's low and high half, in consecutive rows. -/
def nib (w : Vec F S1x1x64x128 .i8) : FVec F S128x128 .bf16 :=
  sitofp .bf16 (shapeCast S128x128 (concatenate S64x2x128 1
    [⟨S64x1x128, shapeCast S64x1x128 (andi (wide w) (broadcast S64x128 15#32)) shapeCasts_S64x128_S64x1x128⟩,
     ⟨S64x1x128, shapeCast S64x1x128 (shrsi (wide w) (broadcast S64x128 4#32)) shapeCasts_S64x128_S64x1x128⟩]
    concatenates_S64x1x128_S64x1x128_S64x2x128_d1) shapeCasts_S64x2x128_S128x128)

/-- The lane numbers of a tile. -/
def lanes : IVec S128x128 32 := iota .tc S128x128 32 [1] iota_S128x128_d1_w32

/-- The quantisation group of each lane of a tile: its number divided by 32, rounded down. -/
def laneGrp : IVec S128x128 32 :=
  select (andi
      (cmpi .ne (subi (extui 32 (cmpi .sgt lanes (broadcast S128x128 0#32)) natLt_1_32)
          (extui 32 (cmpi .slt lanes (broadcast S128x128 0#32)) natLt_1_32))
        (broadcast S128x128 (Scalar.subi (Scalar.extui (Scalar.cmpi .sgt 32#32 0#32)) (Scalar.extui (Scalar.cmpi .slt 32#32 0#32)))))
      (cmpi .ne (remsi lanes (broadcast S128x128 32#32)) (broadcast S128x128 0#32)))
    (subi (divsi lanes (broadcast S128x128 32#32)) (broadcast S128x128 1#32))
    (divsi lanes (broadcast S128x128 32#32))

/-- The scratch column of each lane of tile `t` for head `k`, before wrapping. -/
def gcol (t : ℕ) (k : BitVec 32) : IVec S128x128 32 :=
  addi (addi (muli laneGrp (broadcast S128x128 4#32)) (broadcast S128x128 (BitVec.ofNat 32 (16 * (t % 8))))) (broadcast S128x128 k)

/-- The scratch column of each lane of tile `t` for head `k`. -/
def gidx (t : ℕ) (k : BitVec 32) : IVec S128x128 32 :=
  shapeCast S128x128 (shapeCast S128x128x1
    (select (cmpi .slt (gcol t k) (broadcast S128x128 0#32)) (addi (gcol t k) (broadcast S128x128 128#32)) (gcol t k))
    shapeCasts_S128x128_S128x128x1) shapeCasts_S128x128x1_S128x128

/-- The scratch columns of tile `t` spread over its lanes. -/
def spread (t : ℕ) (k : BitVec 32) (s : Vec F S128x128 .bf16) : FVec F S128x128 .bf16 :=
  truncf .bf16 (dynamicGather 1 (extf .f32 s bitsLt_bf16_f32) (gidx t k)) bitsLt_bf16_f32

/-- A dequantised tile of keys. -/
def kVal (t : ℕ) (k : BitVec 32) (w : Vec F S1x1x64x128 .i8) (s z : Vec F S128x128 .bf16) : FVec F S128x128 .bf16 :=
  addf (mulf (nib w) (spread t k s)) (spread t k z)

/-- A row of scales over the 32 rows of its group. -/
def rowB (s : Vec F S1x1x1x128 .bf16) : FVec F S32x128 .bf16 :=
  broadcastTo S32x128 (shapeCast S1x128 s shapeCasts_S1x1x1x128_S1x128) broadcasts_S1x128_S32x128

/-- A dequantised tile of values. -/
def vVal (w : Vec F S1x1x64x128 .i8) (s0 z0 s1 z1 s2 z2 s3 z3 : Vec F S1x1x1x128 .bf16) : FVec F S128x128 .bf16 :=
  concatenate S128x128 0
    [⟨S32x128, addf (mulf (extractStridedSlice S32x128 ![0, 0] (nib w) slices_S128x128_o0_0_S32x128) (rowB s0)) (rowB z0)⟩,
     ⟨S32x128, addf (mulf (extractStridedSlice S32x128 ![32, 0] (nib w) slices_S128x128_o32_0_S32x128) (rowB s1)) (rowB z1)⟩,
     ⟨S32x128, addf (mulf (extractStridedSlice S32x128 ![64, 0] (nib w) slices_S128x128_o64_0_S32x128) (rowB s2)) (rowB z2)⟩,
     ⟨S32x128, addf (mulf (extractStridedSlice S32x128 ![96, 0] (nib w) slices_S128x128_o96_0_S32x128) (rowB s3)) (rowB z3)⟩]
    concatenates_S32x128_S32x128_S32x128_S32x128_S128x128_d0

/-! ## The tiles' programs -/

variable (R : Refs)

theorem inbK (t : ℕ) (ht : t < 63) : ∀ a, (![0, 0, 0, 128 * t] : Fin 4 → Nat) a + S1x1x64x128.size a ≤ S1x1x64x8064.size a :=
  fun | 0 => le_refl _ | 1 => le_refl _ | 2 => le_refl _ | 3 => by show 128 * t + 128 ≤ 8064; omega

theorem inbG (t : ℕ) (ht : t < 63) : ∀ a, (![0, 128 * (t / 8)] : Fin 2 → Nat) a + S128x128.size a ≤ S128x1024.size a :=
  fun | 0 => le_refl _ | 1 => by show 128 * (t / 8) + 128 ≤ 1024; omega

theorem inbV (g t : ℕ) (hg : g < 4) (ht : t < 63) : ∀ a, (![0, 0, g, 128 * t] : Fin 4 → Nat) a + S1x1x1x128.size a ≤ S1x1x4x8064.size a :=
  fun | 0 => le_refl _ | 1 => le_refl _ | 2 => by show g + 1 ≤ 4; omega | 3 => by show 128 * t + 128 ≤ 8064; omega

theorem inbS (c : ℕ) (hc : c < 31) : ∀ a, (![0, 256 * c] : Fin 2 → Nat) a + S8x256.size a ≤ S8x8192.size a :=
  fun | 0 => le_refl _ | 1 => by show 256 * c + 256 ≤ 8192; omega

theorem slicesP (c : ℕ) (hc : c < 31) : S8x8192.Slices ![0, 256 * c] S8x256 :=
  ⟨rfl, fun | 0 => le_refl _ | 1 => by show 256 * c + 256 ≤ 8192; omega⟩

/-- The places of tile `t` in the packed codes. -/
abbrev rK (t : ℕ) (ht : t < 63) := Rect.unit (s := S1x1x64x8064) ![0, 0, 0, 128 * t] S1x1x64x128.size (inbK t ht)
/-- The places of tile `t` in the transposed scales. -/
abbrev rG (t : ℕ) (ht : t < 63) := Rect.unit (s := S128x1024) ![0, 128 * (t / 8)] S128x128.size (inbG t ht)
/-- The places of group `g` of tile `t` in the values' scales. -/
abbrev rV (g t : ℕ) (hg : g < 4) (ht : t < 63) := Rect.unit (s := S1x1x4x8064) ![0, 0, g, 128 * t] S1x1x1x128.size (inbV g t hg ht)
/-- The places of chunk `c` in the scores. -/
abbrev rS (c : ℕ) (hc : c < 31) := Rect.unit (s := S8x8192) ![0, 256 * c] S8x256.size (inbS c hc)
/-- The places of the last tile in the scores. -/
abbrev rSl := Rect.unit (s := S8x8192) ![0, 7936] S8x128.size inb_S8x8192_S8x128_0_7936
/-- The places of the tail in the scores. -/
abbrev rSt := Rect.unit (s := S8x8192) ![0, 8064] S8x128.size inb_S8x8192_S8x128_0_8064
/-- The scratch columns the scales are written to. -/
abbrev rT := Rect.unit (s := S128x1024) ![0, 0] S128x1008.size inb_S128x1024_S128x1008_0_0

/-- Load tile `t` of the keys, dequantise it, and go on with it. -/
def kTile (k : BitVec 32) (t : ℕ) (ht : t < 63) (K : FVec F S128x128 .bf16 → P F) : P F :=
  .op (.load R.arg5 (rK t ht).toLoadRect (View.loadsAt_vmem h_S1x1x64x128)) fun w =>
  .op (.load R.arg16 (rG t ht).toLoadRect (View.loadsAt_vmem h_S128x128)) fun s =>
  .op (.load R.arg17 (rG t ht).toLoadRect (View.loadsAt_vmem h_S128x128)) fun z =>
  K (kVal t k w s z)

/-- The scores of two tiles of keys. -/
def scores2 (q : FVec F S8x128 .bf16) (a b : FVec F S128x128 .bf16) : FVec F S8x256 .f32 :=
  shapeCast S8x256 (matmul dot_S8x128_S128x256_S8x256_1_0_0_1_n_n none q
    (concatenate S128x256 1 [⟨S128x128, a⟩, ⟨S128x128, b⟩] concatenates_S128x128_S128x128_S128x256_d1)
    (constant S8x256 .f32 0x00000000#32)) shapeCasts_S8x256_S8x256

/-- Chunk `c` of the keys: the scores of two tiles, stored. -/
def kChunk (k : BitVec 32) (q : FVec F S8x128 .bf16) (c : ℕ) (hc : c < 31) (K : P F) : P F :=
  kTile R k (2 * c) (by omega) fun a => kTile R k (2 * c + 1) (by omega) fun b =>
  .op (.load R.arg18 (rS c hc).toLoadRect (View.loadsAt_vmem h_S8x256)) fun (_ : Vec F S8x256 .f32) =>
  .op (.store R.arg18 (rS c hc) (scores2 q a b) Finset.univ (View.stores_vmem_bits_univ h_S8x256 rfl) (.inl rfl)) fun _ => K

/-- The last `n` chunks of the keys. -/
def kLoop (k : BitVec 32) (q : FVec F S8x128 .bf16) : (n : ℕ) → n ≤ 31 → P F → P F
  | 0, _, K => K
  | n + 1, h, K => kChunk R k q (31 - (n + 1)) (by omega) (kLoop k q n (by omega) K)

/-- Load tile `t` of the values, dequantise it, and go on with it. -/
def vTile (t : ℕ) (ht : t < 63) (K : FVec F S128x128 .bf16 → P F) : P F :=
  .op (.load R.arg8 (rK t ht).toLoadRect (View.loadsAt_vmem h_S1x1x64x128)) fun w =>
  .op (.load R.arg9 (rV 0 t (by decide) ht).toLoadRect (View.loadsAt_vmem h_S1x1x1x128)) fun s0 =>
  .op (.load R.arg10 (rV 0 t (by decide) ht).toLoadRect (View.loadsAt_vmem h_S1x1x1x128)) fun z0 =>
  .op (.load R.arg9 (rV 1 t (by decide) ht).toLoadRect (View.loadsAt_vmem h_S1x1x1x128)) fun s1 =>
  .op (.load R.arg10 (rV 1 t (by decide) ht).toLoadRect (View.loadsAt_vmem h_S1x1x1x128)) fun z1 =>
  .op (.load R.arg9 (rV 2 t (by decide) ht).toLoadRect (View.loadsAt_vmem h_S1x1x1x128)) fun s2 =>
  .op (.load R.arg10 (rV 2 t (by decide) ht).toLoadRect (View.loadsAt_vmem h_S1x1x1x128)) fun z2 =>
  .op (.load R.arg9 (rV 3 t (by decide) ht).toLoadRect (View.loadsAt_vmem h_S1x1x1x128)) fun s3 =>
  .op (.load R.arg10 (rV 3 t (by decide) ht).toLoadRect (View.loadsAt_vmem h_S1x1x1x128)) fun z3 =>
  K (vVal w s0 z0 s1 z1 s2 z2 s3 z3)

/-- What a chunk of two tiles of values adds to the weighted sum. -/
def vAdd (c : ℕ) (hc : c < 31) (pb : FVec F S8x8192 .bf16) (a b : FVec F S128x128 .bf16) : FVec F S128x8 .f32 :=
  matmul dot_S128x256_S8x256_S128x8_1_1_0_0_n_n none
    (concatenate S128x256 1 [⟨S128x128, a⟩, ⟨S128x128, b⟩] concatenates_S128x128_S128x128_S128x256_d1)
    (extractStridedSlice S8x256 ![0, 256 * c] pb (slicesP c hc)) (constant S128x8 .f32 0x00000000#32)

/-- The last `n` chunks of the values, added to `acc`. -/
def vLoop (pb : FVec F S8x8192 .bf16) : (n : ℕ) → n ≤ 31 → FVec F S128x8 .f32 → (FVec F S128x8 .f32 → P F) → P F
  | 0, _, acc, K => K acc
  | n + 1, h, acc, K =>
    vTile R (2 * (31 - (n + 1))) (by omega) fun a => vTile R (2 * (31 - (n + 1)) + 1) (by omega) fun b =>
    vLoop pb n (by omega) (addf acc (vAdd (31 - (n + 1)) (by omega) pb a b)) K

/-! ## The rest of the body -/

/-- The queries of a point. -/
def qVal (x : Vec F S1x8x128 .f32) : FVec F S8x128 .bf16 := truncf .bf16 (shapeCast S8x128 x shapeCasts_S1x8x128_S8x128) bitsLt_bf16_f32

/-- A new row, rounded. -/
def rowVal (x : Vec F S1x1x128 .f32) : FVec F S1x128 .f32 :=
  extf .f32 (truncf .bf16 (shapeCast S1x128 x shapeCasts_S1x1x128_S1x128) bitsLt_bf16_f32) bitsLt_bf16_f32

/-- The scores of one tile of keys, stored as rows of positions. -/
def scores1 (q : FVec F S8x128 .bf16) (a : FVec F S128x128 .bf16) : FVec F S8x128 .f32 :=
  shapeCast S8x128 (matmul dot_S8x128_S128x128_S8x128_1_0_0_1_n_n none q a (constant S8x128 .f32 0x00000000#32)) shapeCasts_S8x128_S8x128

/-- The scores of the tail. -/
def scoresT (q : FVec F S8x128 .bf16) (kt : Vec F S1x1x128x128 .bf16) : FVec F S8x128 .f32 :=
  shapeCast S8x128 (matmul dot_S8x128_S128x128_S8x128_1_1_0_0_n_n none q
    (shapeCast S128x128 kt shapeCasts_S1x1x128x128_S128x128) (constant S8x128 .f32 0x00000000#32)) shapeCasts_S8x128_S8x128

/-- The score of the new position. -/
def sNew (q : FVec F S8x128 .bf16) (kn : Vec F S1x1x128 .f32) : FVec F S8x1 .f32 :=
  mulf (shapeCast S8x1 (multiReduction .add [1] S8 (mulf (extf .f32 q bitsLt_bf16_f32) (broadcastTo S8x128 (rowVal kn) broadcasts_S1x128_S8x128))
    0x00000000#32 reduces_S8x128_S8 (.inl rfl) rfl) shapeCasts_S8_S8x1) (broadcast S8x1 (Scalar.ofBits .f32 0x3DB504F3#32))

/-- The scaled scores. -/
def scaled (s : Vec F S8x8192 .f32) : FVec F S8x8192 .f32 := mulf s (broadcast S8x8192 (Scalar.ofBits .f32 0x3DB504F3#32))

/-- The largest score of each row. -/
def mVal (s : Vec F S8x8192 .f32) (sn : FVec F S8x1 .f32) : FVec F S8x1 .f32 :=
  maximumf (shapeCast S8x1 (multiReduction .maximumf [1] S8 (scaled s) 0xFF800000#32 reduces_S8x8192_S8 (.inl rfl) rfl) shapeCasts_S8_S8x1) sn

/-- The weights of the cached positions. -/
def pVal (s : Vec F S8x8192 .f32) (sn : FVec F S8x1 .f32) : FVec F S8x8192 .f32 :=
  exp (subf (scaled s) (broadcastTo S8x8192 (mVal s sn) broadcasts_S8x1_S8x8192))

/-- The weight of the new position. -/
def pNew (s : Vec F S8x8192 .f32) (sn : FVec F S8x1 .f32) : FVec F S8x1 .f32 := exp (subf sn (mVal s sn))

/-- The sum of the weights. -/
def lVal (s : Vec F S8x8192 .f32) (sn : FVec F S8x1 .f32) : FVec F S8x1 .f32 :=
  addf (shapeCast S8x1 (multiReduction .add [1] S8 (pVal s sn) 0x00000000#32 reduces_S8x8192_S8 (.inl rfl) rfl) shapeCasts_S8_S8x1) (pNew s sn)

/-- The rounded weights. -/
def pbVal (s : Vec F S8x8192 .f32) (sn : FVec F S8x1 .f32) : FVec F S8x8192 .bf16 := truncf .bf16 (pVal s sn) bitsLt_bf16_f32

/-- The weighted sum with the last tile's and the tail's values and the new one, divided by the weights' sum. -/
def yVal (s : Vec F S8x8192 .f32) (sn : FVec F S8x1 .f32) (vn : Vec F S1x1x128 .f32) (acc : FVec F S128x8 .f32)
    (a : FVec F S128x128 .bf16) (vt : Vec F S1x1x128x128 .bf16) : FVec F S1x8x128 .f32 :=
  shapeCast S1x8x128 (divf
    (addf
      (addf (transpose S8x128 [1, 0] (addf acc (matmul dot_S128x128_S8x128_S128x8_1_1_0_0_n_n none a
          (extractStridedSlice S8x128 ![0, 7936] (pbVal s sn) slices_S8x8192_o0_7936_S8x128) (constant S128x8 .f32 0x00000000#32)))
          transposes_S128x8_p1_0_S8x128)
        (matmul dot_S8x128_S128x128_S8x128_1_0_0_1_n_n none (extractStridedSlice S8x128 ![0, 8064] (pbVal s sn) slices_S8x8192_o0_8064_S8x128)
          (shapeCast S128x128 vt shapeCasts_S1x1x128x128_S128x128) (constant S8x128 .f32 0x00000000#32)))
      (mulf (broadcastTo S8x128 (extf .f32 (truncf .bf16 (pNew s sn) bitsLt_bf16_f32) bitsLt_bf16_f32) broadcasts_S8x1_S8x128)
        (broadcastTo S8x128 (rowVal vn) broadcasts_S1x128_S8x128)))
    (broadcastTo S8x128 (lVal s sn) broadcasts_S8x1_S8x128)) shapeCasts_S8x128_S1x8x128

/-- The values' half of the body, from the scores on. -/
def vPart (s : Vec F S8x8192 .f32) (sn : FVec F S8x1 .f32) (vn : Vec F S1x1x128 .f32) : P F :=
  vLoop R (pbVal s sn) 31 (le_refl _) (broadcast S128x8 (Scalar.ofBits .f32 0x00000000#32)) fun acc =>
  vTile R 62 (by decide) fun a =>
  .op (.load R.arg12 (Rect.unit (s := S1x1x128x128) ![0, 0, 0, 0] S1x1x128x128.size inb_S1x1x128x128_S1x1x128x128_0_0_0_0).toLoadRect (View.loadsAt_vmem h_S1x1x128x128)) fun vt =>
  .op (.load R.arg13 (Rect.unit (s := S1x8x128) ![0, 0, 0] S1x8x128.size inb_S1x8x128_S1x8x128_0_0_0).toLoadRect (View.loadsAt_vmem h_S1x8x128)) fun (_ : Vec F S1x8x128 .f32) =>
  .op (.store R.arg13 (Rect.unit (s := S1x8x128) ![0, 0, 0] S1x8x128.size inb_S1x8x128_S1x8x128_0_0_0) (yVal s sn vn acc a vt) Finset.univ (View.stores_vmem_bits_univ h_S1x8x128 rfl) (.inl rfl)) fun _ =>
  .ret ⟨⟩

/-- The body after its first-head part. -/
def main (i : grid0.Coords) : P F :=
  .op (.load R.arg2 (Rect.unit (s := S1x8x128) ![0, 0, 0] S1x8x128.size inb_S1x8x128_S1x8x128_0_0_0).toLoadRect (View.loadsAt_vmem h_S1x8x128)) fun x =>
  kLoop R (BitVec.ofNat 32 (i 1).val) (qVal x) 31 (le_refl _) <|
  kTile R (BitVec.ofNat 32 (i 1).val) 62 (by decide) fun a =>
  .op (.load R.arg18 rSl.toLoadRect (View.loadsAt_vmem h_S8x128)) fun (_ : Vec F S8x128 .f32) =>
  .op (.store R.arg18 rSl (scores1 (qVal x) a) Finset.univ (View.stores_vmem_bits_univ h_S8x128 rfl) (.inl rfl)) fun _ =>
  .op (.load R.arg11 (Rect.unit (s := S1x1x128x128) ![0, 0, 0, 0] S1x1x128x128.size inb_S1x1x128x128_S1x1x128x128_0_0_0_0).toLoadRect (View.loadsAt_vmem h_S1x1x128x128)) fun kt =>
  .op (.load R.arg18 rSt.toLoadRect (View.loadsAt_vmem h_S8x128)) fun (_ : Vec F S8x128 .f32) =>
  .op (.store R.arg18 rSt (scoresT (qVal x) kt) Finset.univ (View.stores_vmem_bits_univ h_S8x128 rfl) (.inl rfl)) fun _ =>
  .op (.load R.arg3 (Rect.unit (s := S1x4x128) (k0_off1 i) S1x1x128.size (k0_off1_inb i)).toLoadRect (View.loadsAt_vmem h_S1x1x128)) fun kn =>
  .op (.load R.arg4 (Rect.unit (s := S1x4x128) (k0_off1 i) S1x1x128.size (k0_off1_inb i)).toLoadRect (View.loadsAt_vmem h_S1x1x128)) fun vn =>
  .op (.load R.arg18 (Rect.unit (s := S8x8192) ![0, 0] S8x8192.size inb_S8x8192_S8x8192_0_0).toLoadRect (View.loadsAt_vmem h_S8x8192)) fun s =>
  vPart R s (sNew (qVal x) kn) vn

/-- The identity matrix. -/
def eye : FVec F S128x128 .bf16 :=
  truncf .bf16 (sitofp .f32 (extui 32 (cmpi .eq (iota .tc S128x128 32 [0] iota_S128x128_d0_w32) (iota .tc S128x128 32 [1] iota_S128x128_d1_w32)) natLt_1_32)) bitsLt_bf16_f32

/-- The scales of a batch, transposed. -/
def tVal (x : Vec F S1x1008x128 .bf16) : FVec F S128x1008 .bf16 :=
  shapeCast S128x1008 (truncf .bf16 (matmul dot_S128x128_S1008x128_S128x1008_1_1_0_0_n_n none eye
    (shapeCast S1008x128 x shapeCasts_S1x1008x128_S1008x128) (constant S128x1008 .f32 0x00000000#32)) bitsLt_bf16_f32) shapeCasts_S128x1008_S128x1008

/-- The new rows of a batch, rounded. -/
def newVal (x : Vec F S1x4x128 .f32) : FVec F S1x4x128 .bf16 :=
  shapeCast S1x4x128 (truncf .bf16 (shapeCast S4x128 x shapeCasts_S1x4x128_S4x128) bitsLt_bf16_f32) shapeCasts_S4x128_S1x4x128

/-- The first head's part: the scales transposed into the scratch, the new rows stored. -/
def head (K : P F) : P F :=
  .op (.load R.arg6 (Rect.unit (s := S1x1008x128) ![0, 0, 0] S1x1008x128.size inb_S1x1008x128_S1x1008x128_0_0_0).toLoadRect (View.loadsAt_vmem h_S1x1008x128)) fun s =>
  .op (.load R.arg16 rT.toLoadRect (View.loadsAt_vmem h_S128x1008)) fun (_ : Vec F S128x1008 .bf16) =>
  .op (.store R.arg16 rT (tVal s) Finset.univ (View.stores_vmem h_S128x1008 (R.harg16.storeExact_slice rfl _ packedbf16_S128x1024_S128x1008_0_0) (fun _ => rfl)) (.inl rfl)) fun _ =>
  .op (.load R.arg7 (Rect.unit (s := S1x1008x128) ![0, 0, 0] S1x1008x128.size inb_S1x1008x128_S1x1008x128_0_0_0).toLoadRect (View.loadsAt_vmem h_S1x1008x128)) fun z =>
  .op (.load R.arg17 rT.toLoadRect (View.loadsAt_vmem h_S128x1008)) fun (_ : Vec F S128x1008 .bf16) =>
  .op (.store R.arg17 rT (tVal z) Finset.univ (View.stores_vmem h_S128x1008 (R.harg17.storeExact_slice rfl _ packedbf16_S128x1024_S128x1008_0_0) (fun _ => rfl)) (.inl rfl)) fun _ =>
  .op (.load R.arg3 (Rect.unit (s := S1x4x128) ![0, 0, 0] S1x4x128.size inb_S1x4x128_S1x4x128_0_0_0).toLoadRect (View.loadsAt_vmem h_S1x4x128)) fun kn =>
  .op (.load R.arg14 (Rect.unit (s := S1x4x128) ![0, 0, 0] S1x4x128.size inb_S1x4x128_S1x4x128_0_0_0).toLoadRect (View.loadsAt_vmem h_S1x4x128)) fun (_ : Vec F S1x4x128 .bf16) =>
  .op (.store R.arg14 (Rect.unit (s := S1x4x128) ![0, 0, 0] S1x4x128.size inb_S1x4x128_S1x4x128_0_0_0) (newVal kn) Finset.univ (View.stores_vmem h_S1x4x128 (R.harg14.storeExact_slice rfl _ packedbf16_S1x4x128_S1x4x128_0_0_0) (fun _ => rfl)) (.inl rfl)) fun _ =>
  .op (.load R.arg4 (Rect.unit (s := S1x4x128) ![0, 0, 0] S1x4x128.size inb_S1x4x128_S1x4x128_0_0_0).toLoadRect (View.loadsAt_vmem h_S1x4x128)) fun vn =>
  .op (.load R.arg15 (Rect.unit (s := S1x4x128) ![0, 0, 0] S1x4x128.size inb_S1x4x128_S1x4x128_0_0_0).toLoadRect (View.loadsAt_vmem h_S1x4x128)) fun (_ : Vec F S1x4x128 .bf16) =>
  .op (.store R.arg15 (Rect.unit (s := S1x4x128) ![0, 0, 0] S1x4x128.size inb_S1x4x128_S1x4x128_0_0_0) (newVal vn) Finset.univ (View.stores_vmem h_S1x4x128 (R.harg15.storeExact_slice rfl _ packedbf16_S1x4x128_S1x4x128_0_0_0) (fun _ => rfl)) (.inl rfl)) fun _ =>
  K

end Cert.Kernel.Body

end
-- ==== Proof.Kernel.BodyEq.lean ====
/- The printed body is the program over tiles of `Body`: after its first-head part, one computation. -/
module

public import proofs.«01_k».proof.Proof.Kernel.Body

@[expose] public section

noncomputable section

namespace Cert.Kernel.Body

open Idealize.ShloMosaic Idealize.SL.Sem Cert.Kernel
open Facts₀ Facts

variable {F : FTy → Type} [FloatOps F] (R : Refs)

/-! ## The printed body -/

/-- The printed body on the operands `R`. -/
abbrev printed (i : grid0.Coords) : P F :=
  cc0__attn_kernel i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18

set_option maxRecDepth 100000 in
set_option maxHeartbeats 0 in
/-- After the first-head part, the body is `main`. -/
theorem printed_B (i : grid0.Coords) (h : ¬ k0_cond1 i = 1#1) : printed (F := F) R i = main R i := by
  unfold printed cc0__attn_kernel k0_part172 k0_part2
  rw [dif_neg h]
  rfl

set_option maxRecDepth 100000 in
set_option maxHeartbeats 0 in
/-- At a batch's first head, the body is the first-head part and then `main`. -/
theorem printed_A (i : grid0.Coords) (h : k0_cond1 i = 1#1) : printed (F := F) R i = head R (main R i) := by
  unfold printed cc0__attn_kernel k0_part172 k0_part2
  rw [dif_pos h]
  rfl

end Cert.Kernel.Body

end
-- ==== Proof.Kernel.BodyWp.lean ====
/- Running the body over tiles: what a load and a store do to a buffer held whole, and, from them, what a tile, the loops
   over the tiles and the whole body do. The results are named as functions of what the buffers held. -/
module

public import proofs.«01_k».proof.Proof.Gen.Kernel.Frame
public import proofs.«01_k».proof.Proof.Kernel.BodyEq

@[expose] public section

set_option synthInstance.maxSize 4096

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel
open Facts₀ Facts

variable {F : FTy → Type} [FloatOps F]

local notation "𝕄" => MT nD τ sig Unit (Elt F) ℕ (UR sig nD τ) ℕ

/-- What a whole buffer holds once `w` is stored on the places of `r`. -/
def upd {s : Shape} {e : EltTy} (X : s.Idx → Elt F e) (r : Rect s) (w : r.shape.Idx → Elt F e) : s.Idx → Elt F e :=
  open Classical in fun y => if h : ∃ x, r.emb x = y then w h.choose else X y

theorem upd_emb {s : Shape} {e : EltTy} (X : s.Idx → Elt F e) (r : Rect s) (w : r.shape.Idx → Elt F e) (x : r.shape.Idx) :
    upd X r w (r.emb x) = w x := by
  have h : ∃ x', r.emb x' = r.emb x := ⟨x, rfl⟩
  unfold upd
  rw [dif_pos h]
  exact congrArg w (r.emb.injective h.choose_spec)

theorem upd_of_ne {s : Shape} {e : EltTy} (X : s.Idx → Elt F e) (r : Rect s) (w : r.shape.Idx → Elt F e) (y : s.Idx)
    (h : ∀ x, r.emb x ≠ y) : upd X r w y = X y := by
  unfold upd
  rw [dif_neg (fun ⟨x, hx⟩ => h x hx)]

variable (c : Dev nD) {E : Set ℕ} {Q : PUnit.{1} → sProp (MT nD τ sig Unit (Elt F) ℕ (UR sig nD τ) ℕ)}

/-- A load from a buffer held at `X` continues with what `X` has on the rectangle. -/
theorem wp_ld {s : Shape} {e : EltTy} (m : Memref sig .tc .vmem s e) (r : Rect s) (hl : m.view.LoadsAt r.toLoadRect)
    (X : s.Idx → Elt F e) (k : (r.shape.Idx → Elt F e) → P F) :
    owns (c : Thread nD τ) m fullShare X
      ⊢ iprop((owns (c : Thread nD τ) m fullShare X -∗ wp frame (wpE (defs₀ (F := F)) Variants.none c none) E (k (fun x => X (r.emb x))) Q) -∗ wp frame (wpE (defs₀ (F := F)) Variants.none c none) E (.op (.load m r.toLoadRect hl) k) Q) := by
  unfold owns
  iintro ⟨%f, %hf, H⟩ Hk
  iapply (wp_load_rect (defs := defs₀ (F := F)) Variants.none (c : Thread nD τ) none E (Q := Q) (m := m) (r := r) (hl := hl) (k := k) (S := m.view.set)
    (q := fullShare) (f := f) (m.view.set_slice_subset r)) $$ H
  iintro H
  have e : (m.access r).read (Elt F) f = fun x => X (r.emb x) := by subst hf; rfl
  rw [e]
  iapply Hk
  iexists f
  isplitr
  · ipureintro; exact hf
  iexact H

/-- A store to a buffer held at `X` continues with the buffer at `X` updated on the rectangle. -/
theorem wp_st {s : Shape} {e : EltTy} (m : Memref sig .tc .vmem s e) (r : Rect s) (w : r.shape.Idx → Elt F e)
    (hx : (m.access r).Stores Finset.univ) (hm) (X : s.Idx → Elt F e) (k : PUnit → P F) :
    owns (c : Thread nD τ) m fullShare X
      ⊢ iprop((owns (c : Thread nD τ) m fullShare (upd X r w) -∗ wp frame (wpE (defs₀ (F := F)) Variants.none c none) E (k ⟨⟩) Q) -∗ wp frame (wpE (defs₀ (F := F)) Variants.none c none) E (.op (.store m r w Finset.univ hx hm) k) Q) := by
  unfold owns
  iintro ⟨%f, %hf, H⟩ Hk
  iapply (wp_store (defs := defs₀ (F := F)) Variants.none (c : Thread nD τ) none E (Q := Q) (m := m) (r := r) (w := w) (Mk := Finset.univ) (hx := hx) (hm := hm) (k := k)
    (S := m.view.set) (f := f) (m.setOn_access_subset r Finset.univ)) $$ H
  iintro H
  iapply Hk
  iexists _
  isplitr
  · ipureintro
    swap
    · exact (m.access r).write (Elt F) f w Finset.univ
    funext y
    by_cases hy : ∃ x, r.emb x = y
    · obtain ⟨x, rfl⟩ := hy
      rw [upd_emb]
      exact View.read_slice_write_emb (v := m.view) r f w (Finset.mem_univ x)
    · rw [upd_of_ne _ _ _ _ (fun x hx => hy ⟨x, hx⟩), ← hf]
      refine View.read_slice_write_of_not_mem (v := m.view) r f w _ ?_
      intro hmem
      obtain ⟨x, -, hx⟩ := Finset.mem_map.mp hmem
      exact hy ⟨x, hx⟩
  iexact H

variable (R : Refs)

/-- Tile `t` of the keys, dequantised, of packed codes `X` and transposed scales `U` and `Z`. -/
def kDeq (k : BitVec 32) (t : ℕ) (ht : t < 63) (X : Vec F S1x1x64x8064 .i8) (U Z : Vec F S128x1024 .bf16) : FVec F S128x128 .bf16 :=
  kVal t k (fun x => X ((rK t ht).emb x)) (fun x => U ((rG t ht).emb x)) (fun x => Z ((rG t ht).emb x))

/-- Tile `t` of the values, dequantised, of packed codes `X` and scales `S` and `Z`. -/
def vDeq (t : ℕ) (ht : t < 63) (X : Vec F S1x1x64x8064 .i8) (S Z : Vec F S1x1x4x8064 .bf16) : FVec F S128x128 .bf16 :=
  vVal (fun x => X ((rK t ht).emb x))
    (fun x => S ((rV 0 t (by decide) ht).emb x)) (fun x => Z ((rV 0 t (by decide) ht).emb x))
    (fun x => S ((rV 1 t (by decide) ht).emb x)) (fun x => Z ((rV 1 t (by decide) ht).emb x))
    (fun x => S ((rV 2 t (by decide) ht).emb x)) (fun x => Z ((rV 2 t (by decide) ht).emb x))
    (fun x => S ((rV 3 t (by decide) ht).emb x)) (fun x => Z ((rV 3 t (by decide) ht).emb x))

/-- A tile of keys runs to its continuation at the dequantised tile. -/
theorem wp_kTile (k : BitVec 32) (t : ℕ) (ht : t < 63) (X : Vec F S1x1x64x8064 .i8) (U Z : Vec F S128x1024 .bf16)
    (K : FVec F S128x128 .bf16 → P F) :
    iprop(owns (c : Thread nD τ) R.arg5 fullShare X ∗ owns (c : Thread nD τ) R.arg16 fullShare U ∗ owns (c : Thread nD τ) R.arg17 fullShare Z)
      ⊢ iprop((iprop(owns (c : Thread nD τ) R.arg5 fullShare X ∗ owns (c : Thread nD τ) R.arg16 fullShare U ∗ owns (c : Thread nD τ) R.arg17 fullShare Z)
          -∗ wp frame (wpE (defs₀ (F := F)) Variants.none c none) E (K (kDeq k t ht X U Z)) Q) -∗ wp frame (wpE (defs₀ (F := F)) Variants.none c none) E (kTile R k t ht K) Q) := by
  unfold kTile
  iintro ⟨H5, H16, H17⟩ Hk
  iapply (wp_ld c R.arg5 (rK t ht) _ X _) $$ H5
  iintro H5
  iapply (wp_ld c R.arg16 (rG t ht) _ U _) $$ H16
  iintro H16
  iapply (wp_ld c R.arg17 (rG t ht) _ Z _) $$ H17
  iintro H17
  iapply Hk
  isplitl [H5]
  · iexact H5
  isplitl [H16]
  · iexact H16
  iexact H17

/-- A tile of values runs to its continuation at the dequantised tile. -/
theorem wp_vTile (t : ℕ) (ht : t < 63) (X : Vec F S1x1x64x8064 .i8) (S Z : Vec F S1x1x4x8064 .bf16)
    (K : FVec F S128x128 .bf16 → P F) :
    iprop(owns (c : Thread nD τ) R.arg8 fullShare X ∗ owns (c : Thread nD τ) R.arg9 fullShare S ∗ owns (c : Thread nD τ) R.arg10 fullShare Z)
      ⊢ iprop((iprop(owns (c : Thread nD τ) R.arg8 fullShare X ∗ owns (c : Thread nD τ) R.arg9 fullShare S ∗ owns (c : Thread nD τ) R.arg10 fullShare Z)
          -∗ wp frame (wpE (defs₀ (F := F)) Variants.none c none) E (K (vDeq t ht X S Z)) Q) -∗ wp frame (wpE (defs₀ (F := F)) Variants.none c none) E (vTile R t ht K) Q) := by
  unfold vTile
  iintro ⟨H8, H9, H10⟩ Hk
  iapply (wp_ld c R.arg8 (rK t ht) _ X _) $$ H8
  iintro H8
  iapply (wp_ld c R.arg9 (rV 0 t _ ht) _ S _) $$ H9
  iintro H9
  iapply (wp_ld c R.arg10 (rV 0 t _ ht) _ Z _) $$ H10
  iintro H10
  iapply (wp_ld c R.arg9 (rV 1 t _ ht) _ S _) $$ H9
  iintro H9
  iapply (wp_ld c R.arg10 (rV 1 t _ ht) _ Z _) $$ H10
  iintro H10
  iapply (wp_ld c R.arg9 (rV 2 t _ ht) _ S _) $$ H9
  iintro H9
  iapply (wp_ld c R.arg10 (rV 2 t _ ht) _ Z _) $$ H10
  iintro H10
  iapply (wp_ld c R.arg9 (rV 3 t _ ht) _ S _) $$ H9
  iintro H9
  iapply (wp_ld c R.arg10 (rV 3 t _ ht) _ Z _) $$ H10
  iintro H10
  iapply Hk
  isplitl [H8]
  · iexact H8
  isplitl [H9]
  · iexact H9
  iexact H10

/-- The scores once the last `n` chunks are stored over `d`. -/
def sChunks (k : BitVec 32) (q : FVec F S8x128 .bf16) (X : Vec F S1x1x64x8064 .i8) (U Z : Vec F S128x1024 .bf16) :
    (n : ℕ) → n ≤ 31 → Vec F S8x8192 .f32 → Vec F S8x8192 .f32
  | 0, _, d => d
  | n + 1, h, d => sChunks k q X U Z n (by omega) (upd d (rS (31 - (n + 1)) (by omega))
      (scores2 q (kDeq k (2 * (31 - (n + 1))) (by omega) X U Z) (kDeq k (2 * (31 - (n + 1)) + 1) (by omega) X U Z)))

/-- The loop over the chunks of keys runs to its continuation with the scores stored. -/
theorem wp_kLoop (k : BitVec 32) (q : FVec F S8x128 .bf16) (X : Vec F S1x1x64x8064 .i8) (U Z : Vec F S128x1024 .bf16) (K : P F) :
    ∀ (n : ℕ) (h : n ≤ 31) (d : Vec F S8x8192 .f32),
    iprop(owns (c : Thread nD τ) R.arg5 fullShare X ∗ owns (c : Thread nD τ) R.arg16 fullShare U ∗ owns (c : Thread nD τ) R.arg17 fullShare Z
        ∗ owns (c : Thread nD τ) R.arg18 fullShare d)
      ⊢ iprop((iprop(owns (c : Thread nD τ) R.arg5 fullShare X ∗ owns (c : Thread nD τ) R.arg16 fullShare U ∗ owns (c : Thread nD τ) R.arg17 fullShare Z
          ∗ owns (c : Thread nD τ) R.arg18 fullShare (sChunks k q X U Z n h d))
          -∗ wp frame (wpE (defs₀ (F := F)) Variants.none c none) E K Q) -∗ wp frame (wpE (defs₀ (F := F)) Variants.none c none) E (kLoop R k q n h K) Q)
  | 0, h, d => by
    unfold kLoop sChunks
    iintro H Hk
    iapply Hk
    iexact H
  | n + 1, h, d => by
    unfold kLoop kChunk sChunks
    iintro ⟨H5, H16, H17, H18⟩ Hk
    iapply (wp_kTile c R k (2 * (31 - (n + 1))) _ X U Z _) $$ [H5 H16 H17]
    · isplitl [H5]
      · iexact H5
      isplitl [H16]
      · iexact H16
      iexact H17
    iintro ⟨H5, H16, H17⟩
    iapply (wp_kTile c R k (2 * (31 - (n + 1)) + 1) _ X U Z _) $$ [H5 H16 H17]
    · isplitl [H5]
      · iexact H5
      isplitl [H16]
      · iexact H16
      iexact H17
    iintro ⟨H5, H16, H17⟩
    iapply (wp_ld c R.arg18 (rS (31 - (n + 1)) _) _ d _) $$ H18
    iintro H18
    iapply (wp_st c R.arg18 (rS (31 - (n + 1)) _) _ _ _ d _) $$ H18
    iintro H18
    iapply (wp_kLoop k q X U Z K n _ _) $$ [H5 H16 H17 H18]
    · isplitl [H5]
      · iexact H5
      isplitl [H16]
      · iexact H16
      isplitl [H17]
      · iexact H17
      iexact H18
    iexact Hk

/-- The weighted sum with the last `n` chunks of values added to `acc`. -/
def accChunks (pb : FVec F S8x8192 .bf16) (X : Vec F S1x1x64x8064 .i8) (S Z : Vec F S1x1x4x8064 .bf16) :
    (n : ℕ) → n ≤ 31 → FVec F S128x8 .f32 → FVec F S128x8 .f32
  | 0, _, acc => acc
  | n + 1, h, acc => accChunks pb X S Z n (by omega) (addf acc (vAdd (31 - (n + 1)) (by omega) pb
      (vDeq (2 * (31 - (n + 1))) (by omega) X S Z) (vDeq (2 * (31 - (n + 1)) + 1) (by omega) X S Z)))

/-- The loop over the chunks of values runs to its continuation at the weighted sum. -/
theorem wp_vLoop (pb : FVec F S8x8192 .bf16) (X : Vec F S1x1x64x8064 .i8) (S Z : Vec F S1x1x4x8064 .bf16)
    (K : FVec F S128x8 .f32 → P F) :
    ∀ (n : ℕ) (h : n ≤ 31) (acc : FVec F S128x8 .f32),
    iprop(owns (c : Thread nD τ) R.arg8 fullShare X ∗ owns (c : Thread nD τ) R.arg9 fullShare S ∗ owns (c : Thread nD τ) R.arg10 fullShare Z)
      ⊢ iprop((iprop(owns (c : Thread nD τ) R.arg8 fullShare X ∗ owns (c : Thread nD τ) R.arg9 fullShare S ∗ owns (c : Thread nD τ) R.arg10 fullShare Z)
          -∗ wp frame (wpE (defs₀ (F := F)) Variants.none c none) E (K (accChunks pb X S Z n h acc)) Q) -∗ wp frame (wpE (defs₀ (F := F)) Variants.none c none) E (vLoop R pb n h acc K) Q)
  | 0, h, acc => by
    unfold vLoop accChunks
    iintro H Hk
    iapply Hk
    iexact H
  | n + 1, h, acc => by
    unfold vLoop accChunks
    iintro H Hk
    iapply (wp_vTile c R (2 * (31 - (n + 1))) _ X S Z _) $$ H
    iintro H
    iapply (wp_vTile c R (2 * (31 - (n + 1)) + 1) _ X S Z _) $$ H
    iintro H
    iapply (wp_vLoop pb X S Z K n _ _) $$ H
    iexact Hk

/-- The places of the new row of a point's head. -/
abbrev rN (i : grid0.Coords) := Rect.unit (s := S1x4x128) (k0_off1 i) S1x1x128.size (k0_off1_inb i)

/-- The queries of a point, from its block. -/
def qOf (x0 : Vec F S1x8x128 .f32) : FVec F S8x128 .bf16 := qVal (fun x => x0 ((Rect.unit (s := S1x8x128) ![0, 0, 0] S1x8x128.size inb_S1x8x128_S1x8x128_0_0_0).emb x))

/-- All the scores of a point, stored over `d`. -/
def sAll (k : BitVec 32) (q : FVec F S8x128 .bf16) (X : Vec F S1x1x64x8064 .i8) (U Z : Vec F S128x1024 .bf16) (kt : Vec F S1x1x128x128 .bf16)
    (d : Vec F S8x8192 .f32) : Vec F S8x8192 .f32 :=
  upd (upd (sChunks k q X U Z 31 (le_refl _) d) rSl (scores1 q (kDeq k 62 (by decide) X U Z))) rSt
    (scoresT q (fun x => kt ((Rect.unit (s := S1x1x128x128) ![0, 0, 0, 0] S1x1x128x128.size inb_S1x1x128x128_S1x1x128x128_0_0_0_0).emb x)))

/-- The result of a point from its scores. -/
def yOf (s : Vec F S8x8192 .f32) (sn : FVec F S8x1 .f32) (vn : Vec F S1x1x128 .f32) (x6 : Vec F S1x1x64x8064 .i8)
    (x7 x8 : Vec F S1x1x4x8064 .bf16) (vt : Vec F S1x1x128x128 .bf16) : FVec F S1x8x128 .f32 :=
  yVal s sn vn (accChunks (pbVal s sn) x6 x7 x8 31 (le_refl _) (broadcast S128x8 (Scalar.ofBits .f32 0x00000000#32)))
    (vDeq 62 (by decide) x6 x7 x8) (fun x => vt ((Rect.unit (s := S1x1x128x128) ![0, 0, 0, 0] S1x1x128x128.size inb_S1x1x128x128_S1x1x128x128_0_0_0_0).emb x))

/-- The result of a point, whatever the result's buffer held. -/
def yOut (i : grid0.Coords) (x0 : Vec F S1x8x128 .f32) (x1 x2 : Vec F S1x4x128 .f32) (x3 x6 : Vec F S1x1x64x8064 .i8)
    (x7 x8 : Vec F S1x1x4x8064 .bf16) (x9 x10 : Vec F S1x1x128x128 .bf16) (U Z : Vec F S128x1024 .bf16) (d : Vec F S8x8192 .f32) :
    FVec F S1x8x128 .f32 :=
  yOf (fun x => sAll (BitVec.ofNat 32 (i 1).val) (qOf x0) x3 U Z x9 d ((Rect.unit (s := S8x8192) ![0, 0] S8x8192.size inb_S8x8192_S8x8192_0_0).emb x))
    (sNew (qOf x0) (fun x => x1 ((rN i).emb x))) (fun x => x2 ((rN i).emb x)) x6 x7 x8 x10

/-- A rectangle of a whole shape is the whole shape: the place of `x` in it is `x`. -/
theorem emb_whole {s : Shape} (off : Fin s.rank → ℕ) (inb : ∀ a, off a + s.size a ≤ s.size a) (x : (Rect.unit (s := s) off s.size inb).shape.Idx) :
    (Rect.unit (s := s) off s.size inb).emb x = x := by
  funext a
  apply Fin.ext
  show off a + 1 * (x a).val = (x a).val
  have := inb a
  omega

/-- What a whole buffer holds once `w` is stored on all of it is `w`. -/
theorem upd_whole {s : Shape} {e : EltTy} (X : s.Idx → Elt F e) (off : Fin s.rank → ℕ) (inb : ∀ a, off a + s.size a ≤ s.size a)
    (w : s.Idx → Elt F e) : upd X (Rect.unit (s := s) off s.size inb) w = w := by
  funext y
  have := upd_emb X (Rect.unit (s := s) off s.size inb) w y
  rwa [emb_whole] at this

/-- The body after its first-head part: its inputs, the scratch scales and anything in the scores' and the result's
    buffers, it runs with the scores and the result in theirs. -/
theorem wp_main (i : grid0.Coords) (x0 : Vec F S1x8x128 .f32) (x1 x2 : Vec F S1x4x128 .f32) (x3 x6 : Vec F S1x1x64x8064 .i8)
    (x7 x8 : Vec F S1x1x4x8064 .bf16) (x9 x10 : Vec F S1x1x128x128 .bf16) (d13 : Vec F S1x8x128 .f32) (U Z : Vec F S128x1024 .bf16)
    (d : Vec F S8x8192 .f32) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yOut i x0 x1 x2 x3 x6 x7 x8 x9 x10 U Z d) ∗ owns (c : Thread nD τ) R.arg16 fullShare U ∗ owns (c : Thread nD τ) R.arg17 fullShare Z ∗ owns (c : Thread nD τ) R.arg18 fullShare (sAll (BitVec.ofNat 32 (i 1).val) (qOf x0) x3 U Z x9 d))
          -∗ Q ⟨⟩) -∗ wp frame (wpE (defs₀ (F := F)) Variants.none c none) E (main R i) Q) := by
  unfold main vPart
  iintro ⟨H2, H3, H4, H5, H8, H9, H10, H11, H12, H13, H16, H17, H18⟩ Hk
  iapply (wp_ld c R.arg2 (Rect.unit (s := S1x8x128) ![0, 0, 0] S1x8x128.size inb_S1x8x128_S1x8x128_0_0_0) _ x0 _) $$ H2
  iintro H2
  iapply (wp_kLoop c R (BitVec.ofNat 32 (i 1).val) (qOf x0) x3 U Z _ 31 (le_refl _) d) $$ [H5 H16 H17 H18]
  · isplitl [H5]
    · iexact H5
    isplitl [H16]
    · iexact H16
    isplitl [H17]
    · iexact H17
    iexact H18
  iintro ⟨H5, H16, H17, H18⟩
  iapply (wp_kTile c R (BitVec.ofNat 32 (i 1).val) 62 _ x3 U Z _) $$ [H5 H16 H17]
  · isplitl [H5]
    · iexact H5
    isplitl [H16]
    · iexact H16
    iexact H17
  iintro ⟨H5, H16, H17⟩
  iapply (wp_ld c R.arg18 rSl _ _ _) $$ H18
  iintro H18
  iapply (wp_st c R.arg18 rSl _ _ _ _ _) $$ H18
  iintro H18
  iapply (wp_ld c R.arg11 (Rect.unit (s := S1x1x128x128) ![0, 0, 0, 0] S1x1x128x128.size inb_S1x1x128x128_S1x1x128x128_0_0_0_0) _ x9 _) $$ H11
  iintro H11
  iapply (wp_ld c R.arg18 rSt _ _ _) $$ H18
  iintro H18
  iapply (wp_st c R.arg18 rSt _ _ _ _ _) $$ H18
  iintro H18
  iapply (wp_ld c R.arg3 (rN i) _ x1 _) $$ H3
  iintro H3
  iapply (wp_ld c R.arg4 (rN i) _ x2 _) $$ H4
  iintro H4
  iapply (wp_ld c R.arg18 (Rect.unit (s := S8x8192) ![0, 0] S8x8192.size inb_S8x8192_S8x8192_0_0) _ _ _) $$ H18
  iintro H18
  iapply (wp_vLoop c R _ x6 x7 x8 _ 31 (le_refl _) _) $$ [H8 H9 H10]
  · isplitl [H8]
    · iexact H8
    isplitl [H9]
    · iexact H9
    iexact H10
  iintro H
  iapply (wp_vTile c R 62 _ x6 x7 x8 _) $$ H
  iintro ⟨H8, H9, H10⟩
  iapply (wp_ld c R.arg12 (Rect.unit (s := S1x1x128x128) ![0, 0, 0, 0] S1x1x128x128.size inb_S1x1x128x128_S1x1x128x128_0_0_0_0) _ x10 _) $$ H12
  iintro H12
  iapply (wp_ld c R.arg13 (Rect.unit (s := S1x8x128) ![0, 0, 0] S1x8x128.size inb_S1x8x128_S1x8x128_0_0_0) _ d13 _) $$ H13
  iintro H13
  iapply (wp_st c R.arg13 (Rect.unit (s := S1x8x128) ![0, 0, 0] S1x8x128.size inb_S1x8x128_S1x8x128_0_0_0) _ _ _ d13 _) $$ H13
  rw [upd_whole]
  iintro H13
  sl_step
  iapply Hk
  isplitl [H2]
  · iexact H2
  isplitl [H3]
  · iexact H3
  isplitl [H4]
  · iexact H4
  isplitl [H5]
  · iexact H5
  isplitl [H8]
  · iexact H8
  isplitl [H9]
  · iexact H9
  isplitl [H10]
  · iexact H10
  isplitl [H11]
  · iexact H11
  isplitl [H12]
  · iexact H12
  isplitl [H13]
  · iexact H13
  isplitl [H16]
  · iexact H16
  isplitl [H17]
  · iexact H17
  iexact H18

/-- The first head's part: it runs to its continuation with the scales transposed into the scratch and the new rows stored. -/
theorem wp_head (K : P F) (x1 x2 : Vec F S1x4x128 .f32) (x4 x5 : Vec F S1x1008x128 .bf16) (d14 d15 : Vec F S1x4x128 .bf16)
    (U Z : Vec F S128x1024 .bf16) :
    iprop(owns (c : Thread nD τ) R.arg3 fullShare x1 ∗ owns (c : Thread nD τ) R.arg4 fullShare x2 ∗ owns (c : Thread nD τ) R.arg6 fullShare x4 ∗ owns (c : Thread nD τ) R.arg7 fullShare x5 ∗ owns (c : Thread nD τ) R.arg14 fullShare d14 ∗ owns (c : Thread nD τ) R.arg15 fullShare d15 ∗ owns (c : Thread nD τ) R.arg16 fullShare U ∗ owns (c : Thread nD τ) R.arg17 fullShare Z)
      ⊢ iprop((iprop(owns (c : Thread nD τ) R.arg3 fullShare x1 ∗ owns (c : Thread nD τ) R.arg4 fullShare x2 ∗ owns (c : Thread nD τ) R.arg6 fullShare x4 ∗ owns (c : Thread nD τ) R.arg7 fullShare x5 ∗ owns (c : Thread nD τ) R.arg14 fullShare (newVal x1) ∗ owns (c : Thread nD τ) R.arg15 fullShare (newVal x2) ∗ owns (c : Thread nD τ) R.arg16 fullShare (upd U rT (tVal x4)) ∗ owns (c : Thread nD τ) R.arg17 fullShare (upd Z rT (tVal x5)))
          -∗ wp frame (wpE (defs₀ (F := F)) Variants.none c none) E K Q) -∗ wp frame (wpE (defs₀ (F := F)) Variants.none c none) E (head R K) Q) := by
  unfold head
  iintro ⟨H3, H4, H6, H7, H14, H15, H16, H17⟩ Hk
  have e4 : (fun x => x4 ((Rect.unit (s := S1x1008x128) ![0, 0, 0] S1x1008x128.size inb_S1x1008x128_S1x1008x128_0_0_0).emb x)) = x4 := funext fun x => congrArg x4 (emb_whole _ _ x)
  have e5 : (fun x => x5 ((Rect.unit (s := S1x1008x128) ![0, 0, 0] S1x1008x128.size inb_S1x1008x128_S1x1008x128_0_0_0).emb x)) = x5 := funext fun x => congrArg x5 (emb_whole _ _ x)
  have e1 : (fun x => x1 ((Rect.unit (s := S1x4x128) ![0, 0, 0] S1x4x128.size inb_S1x4x128_S1x4x128_0_0_0).emb x)) = x1 := funext fun x => congrArg x1 (emb_whole _ _ x)
  have e2 : (fun x => x2 ((Rect.unit (s := S1x4x128) ![0, 0, 0] S1x4x128.size inb_S1x4x128_S1x4x128_0_0_0).emb x)) = x2 := funext fun x => congrArg x2 (emb_whole _ _ x)
  iapply (wp_ld c R.arg6 (Rect.unit (s := S1x1008x128) ![0, 0, 0] S1x1008x128.size inb_S1x1008x128_S1x1008x128_0_0_0) _ x4 _) $$ H6
  iintro H6
  rw [e4]
  iapply (wp_ld c R.arg16 rT _ U _) $$ H16
  iintro H16
  iapply (wp_st c R.arg16 rT _ _ _ U _) $$ H16
  iintro H16
  iapply (wp_ld c R.arg7 (Rect.unit (s := S1x1008x128) ![0, 0, 0] S1x1008x128.size inb_S1x1008x128_S1x1008x128_0_0_0) _ x5 _) $$ H7
  iintro H7
  rw [e5]
  iapply (wp_ld c R.arg17 rT _ Z _) $$ H17
  iintro H17
  iapply (wp_st c R.arg17 rT _ _ _ Z _) $$ H17
  iintro H17
  iapply (wp_ld c R.arg3 (Rect.unit (s := S1x4x128) ![0, 0, 0] S1x4x128.size inb_S1x4x128_S1x4x128_0_0_0) _ x1 _) $$ H3
  iintro H3
  rw [e1]
  iapply (wp_ld c R.arg14 (Rect.unit (s := S1x4x128) ![0, 0, 0] S1x4x128.size inb_S1x4x128_S1x4x128_0_0_0) _ d14 _) $$ H14
  iintro H14
  iapply (wp_st c R.arg14 (Rect.unit (s := S1x4x128) ![0, 0, 0] S1x4x128.size inb_S1x4x128_S1x4x128_0_0_0) _ _ _ d14 _) $$ H14
  rw [upd_whole]
  iintro H14
  iapply (wp_ld c R.arg4 (Rect.unit (s := S1x4x128) ![0, 0, 0] S1x4x128.size inb_S1x4x128_S1x4x128_0_0_0) _ x2 _) $$ H4
  iintro H4
  rw [e2]
  iapply (wp_ld c R.arg15 (Rect.unit (s := S1x4x128) ![0, 0, 0] S1x4x128.size inb_S1x4x128_S1x4x128_0_0_0) _ d15 _) $$ H15
  iintro H15
  iapply (wp_st c R.arg15 (Rect.unit (s := S1x4x128) ![0, 0, 0] S1x4x128.size inb_S1x4x128_S1x4x128_0_0_0) _ _ _ d15 _) $$ H15
  rw [upd_whole]
  iintro H15
  iapply Hk
  isplitl [H3]
  · iexact H3
  isplitl [H4]
  · iexact H4
  isplitl [H6]
  · iexact H6
  isplitl [H7]
  · iexact H7
  isplitl [H14]
  · iexact H14
  isplitl [H15]
  · iexact H15
  isplitl [H16]
  · iexact H16
  iexact H17

end Cert.Kernel.Body

end
-- ==== Proof.Kernel.Cols.lean ====
/- Which scratch columns the body reads, and that its result does not depend on what its buffers held before. -/
module

public import proofs.«01_k».proof.Proof.Kernel.BodyWp
public import Idealize.ShloMosaic.Lib.ValueLayout

@[expose] public section

noncomputable section

namespace Cert.Kernel.Body

open Idealize.ShloMosaic Idealize.ShloMosaic.ValueIdx Cert.Kernel
open Facts₀ Facts

variable {F : FTy → Type} [FloatOps F]

theorem laneGrp_row (d d' l : Fin 128) : laneGrp (ix2 d l) = laneGrp (ix2 d' l) := rfl

set_option maxRecDepth 100000 in
/-- The quantisation group of lane `l` is `l / 32`. -/
theorem laneGrp_apply (d l : Fin 128) : laneGrp (ix2 d l) = BitVec.ofNat 32 (l.val / 32) := by
  rw [laneGrp_row d 0 l]
  revert l
  decide +kernel

/-- The scratch column of lane `l` of tile `t` for head `k`, within its slab of 128 columns. -/
theorem gcol_apply (t : ℕ) (k : ℕ) (hk : k < 4) (d l : Fin 128) :
    (gcol t (BitVec.ofNat 32 k) (ix2 d l)) = BitVec.ofNat 32 (4 * (l.val / 32) + 16 * (t % 8) + k) := by
  show (laneGrp (ix2 d l) * 4#32 + BitVec.ofNat 32 (16 * (t % 8))) + BitVec.ofNat 32 k = _
  rw [laneGrp_apply]
  apply BitVec.eq_of_toNat_eq
  have := l.isLt
  simp only [BitVec.toNat_add, BitVec.toNat_mul, BitVec.toNat_ofNat]
  omega

theorem gidx_apply (t : ℕ) (k : ℕ) (hk : k < 4) (d l : Fin 128) :
    (gidx t (BitVec.ofNat 32 k) (ix2 d l)).toNat = 4 * (l.val / 32) + 16 * (t % 8) + k := by
  have h1 := shapeCast_apply (shapeCast S128x128x1
    (select (cmpi .slt (gcol t (BitVec.ofNat 32 k)) (broadcast S128x128 0#32)) (addi (gcol t (BitVec.ofNat 32 k)) (broadcast S128x128 128#32)) (gcol t (BitVec.ofNat 32 k)))
    shapeCasts_S128x128_S128x128x1) shapeCasts_S128x128x1_S128x128 (ix2 d l) (ix3 d l (0 : Fin 1)) (by
      rw [Shape.rowMajor_val_three, Shape.rowMajor_val_two]
      show (d.val * 128 + l.val) * 1 + 0 = d.val * 128 + l.val
      omega)
  have h2 := shapeCast_apply
    (select (cmpi .slt (gcol t (BitVec.ofNat 32 k)) (broadcast S128x128 0#32)) (addi (gcol t (BitVec.ofNat 32 k)) (broadcast S128x128 128#32)) (gcol t (BitVec.ofNat 32 k)))
    shapeCasts_S128x128_S128x128x1 (ix3 d l (0 : Fin 1)) (ix2 d l) (by
      rw [Shape.rowMajor_val_three, Shape.rowMajor_val_two]
      show d.val * 128 + l.val = (d.val * 128 + l.val) * 1 + 0
      omega)
  have hl := l.isLt
  have h3 : BitVec.slt (BitVec.ofNat 32 (4 * (l.val / 32) + 16 * (t % 8) + k)) 0#32 = false := by
    rw [BitVec.slt_eq_decide, decide_eq_false_iff_not, BitVec.toInt_eq_toNat_of_lt (by rw [BitVec.toNat_ofNat]; omega)]
    show ¬ ((_ : ℕ) : Int) < 0
    omega
  unfold gidx
  rw [h1, h2]
  show (Scalar.select (BitVec.ofBool (BitVec.slt (gcol t (BitVec.ofNat 32 k) (ix2 d l)) 0#32)) (gcol t (BitVec.ofNat 32 k) (ix2 d l) + 128#32) (gcol t (BitVec.ofNat 32 k) (ix2 d l))).toNat = _
  rw [gcol_apply t k hk, h3]
  show (BitVec.ofNat 32 (4 * (l.val / 32) + 16 * (t % 8) + k)).toNat = _
  rw [BitVec.toNat_ofNat]
  omega

/-- The scratch column of lane `l` of tile `t` for head `k`: that of quantisation group `4 t + l / 32`. -/
def col (t : ℕ) (ht : t < 63) (k : Fin 4) (l : Fin 128) : Fin 1008 := ⟨4 * (4 * t + l.val / 32) + k.val, by have := l.isLt; have := k.isLt; omega⟩

/-- The scales spread over the lanes of a tile: lane `l` has its group's column. -/
theorem spread_apply (t : ℕ) (ht : t < 63) (k : Fin 4) (U : Vec F S128x1024 .bf16) (d l : Fin 128) :
    spread t (BitVec.ofNat 32 k.val) (fun x => U ((rG t ht).emb x)) (ix2 d l)
      = FloatOps.truncf .bf16 bitsLt_bf16_f32 (FloatOps.extf .f32 bitsLt_bf16_f32
          (U (ix2 d ⟨(col t ht k l).val, by have := (col t ht k l).isLt; omega⟩))) := by
  show FloatOps.truncf .bf16 bitsLt_bf16_f32 (FloatOps.extf .f32 bitsLt_bf16_f32 (U _)) = _
  congr 3
  funext a
  apply Fin.ext
  match a with
  | ⟨0, _⟩ => exact (Nat.zero_add _).trans (Nat.one_mul _)
  | ⟨1, _⟩ =>
    show 128 * (t / 8) + 1 * ((gidx t (BitVec.ofNat 32 k.val) (ix2 d l)).toNat % 128) = 4 * (4 * t + l.val / 32) + k.val
    rw [gidx_apply t k.val k.isLt]
    have := l.isLt
    have := k.isLt
    omega

/-- Two scratch contents that agree on the columns the scales are written to. -/
def Agree (U U' : Vec F S128x1024 .bf16) : Prop := ∀ (d : Fin 128) (j : Fin 1008),
  U (ix2 d ⟨j.val, by have := j.isLt; omega⟩) = U' (ix2 d ⟨j.val, by have := j.isLt; omega⟩)

/-- An index of a matrix is its two coordinates. -/
theorem ix2_eta {a b : ℕ} (j : (⟨2, ![a, b]⟩ : Shape).Idx) : ∃ (x : Fin a) (y : Fin b), j = ix2 x y :=
  ⟨j 0, j 1, funext fun | ⟨0, _⟩ => rfl | ⟨1, _⟩ => rfl⟩

/-- A dequantised tile depends on the scratch only through the columns the scales are written to. -/
theorem kDeq_congr (k : Fin 4) (t : ℕ) (ht : t < 63) (X : Vec F S1x1x64x8064 .i8) (U U' Z Z' : Vec F S128x1024 .bf16)
    (hU : Agree U U') (hZ : Agree Z Z') :
    kDeq (BitVec.ofNat 32 k.val) t ht X U Z = kDeq (BitVec.ofNat 32 k.val) t ht X U' Z' := by
  have key : ∀ V V' : Vec F S128x1024 .bf16, Agree V V' →
      spread t (BitVec.ofNat 32 k.val) (fun x => V ((rG t ht).emb x)) = spread t (BitVec.ofNat 32 k.val) (fun x => V' ((rG t ht).emb x)) := by
    intro V V' h
    funext j
    obtain ⟨d, l, rfl⟩ := ix2_eta j
    rw [spread_apply t ht k V d l, spread_apply t ht k V' d l, h d (col t ht k l)]
  unfold kDeq kVal
  rw [key U U' hU, key Z Z' hZ]

/-! ## The scores, place by place -/

section Scores

variable (k : BitVec 32) (q : FVec F S8x128 .bf16) (X : Vec F S1x1x64x8064 .i8) (U Z : Vec F S128x1024 .bf16)

theorem emb_rS (c : ℕ) (hc : c < 31) (r : Fin 8) (j : Fin 256) :
    (rS c hc).emb (ix2 r j) = ix2 r ⟨256 * c + j.val, by have := j.isLt; omega⟩ :=
  funext fun
    | ⟨0, _⟩ => Fin.ext ((Nat.zero_add _).trans (Nat.one_mul _))
    | ⟨1, _⟩ => Fin.ext (congrArg (256 * c + ·) (Nat.one_mul _))

theorem emb_rSl (r : Fin 8) (j : Fin 128) : rSl.emb (ix2 r j) = ix2 r ⟨7936 + j.val, by have := j.isLt; omega⟩ :=
  funext fun
    | ⟨0, _⟩ => Fin.ext ((Nat.zero_add _).trans (Nat.one_mul _))
    | ⟨1, _⟩ => Fin.ext (congrArg (7936 + ·) (Nat.one_mul _))

theorem emb_rSt (r : Fin 8) (j : Fin 128) : rSt.emb (ix2 r j) = ix2 r ⟨8064 + j.val, by have := j.isLt; omega⟩ :=
  funext fun
    | ⟨0, _⟩ => Fin.ext ((Nat.zero_add _).trans (Nat.one_mul _))
    | ⟨1, _⟩ => Fin.ext (congrArg (8064 + ·) (Nat.one_mul _))

theorem ix2_snd_ne {a b : ℕ} {x x' : Fin a} {y y' : Fin b} (h : y.val ≠ y'.val) : (ix2 x y : (⟨2, ![a, b]⟩ : Shape).Idx) ≠ ix2 x' y' :=
  fun e => h (congrArg Fin.val (congrFun e 1))

/-- The chunks leave the places before them alone. -/
theorem sChunks_below : ∀ (n : ℕ) (h : n ≤ 31) (d : Vec F S8x8192 .f32) (r : Fin 8) (p : Fin 8192), p.val < 256 * (31 - n) →
    sChunks k q X U Z n h d (ix2 r p) = d (ix2 r p)
  | 0, h, d, r, p, hp => rfl
  | n + 1, h, d, r, p, hp => by
    unfold sChunks
    rw [sChunks_below n _ _ r p (by omega)]
    apply upd_of_ne
    intro x
    obtain ⟨a, b, rfl⟩ := ix2_eta x
    rw [emb_rS]
    exact ix2_snd_ne (by show 256 * (31 - (n + 1)) + b.val ≠ p.val; omega)

/-- The last chunks leave the places after them alone. -/
theorem sChunks_above : ∀ (n : ℕ) (h : n ≤ 31) (d : Vec F S8x8192 .f32) (r : Fin 8) (p : Fin 8192), 7936 ≤ p.val →
    sChunks k q X U Z n h d (ix2 r p) = d (ix2 r p)
  | 0, h, d, r, p, hp => rfl
  | n + 1, h, d, r, p, hp => by
    unfold sChunks
    rw [sChunks_above n _ _ r p (by omega)]
    apply upd_of_ne
    intro x
    obtain ⟨a, b, rfl⟩ := ix2_eta x
    rw [emb_rS]
    have hb : b.val < 256 := b.isLt
    exact ix2_snd_ne (by show 256 * (31 - (n + 1)) + b.val ≠ p.val; omega)

/-- A chunk's places hold its scores. -/
theorem sChunks_apply : ∀ (n : ℕ) (h : n ≤ 31) (d : Vec F S8x8192 .f32) (c : ℕ) (hc : c < 31) (hn : 31 - n ≤ c) (r : Fin 8) (j : Fin 256),
    sChunks k q X U Z n h d (ix2 r ⟨256 * c + j.val, by have := j.isLt; omega⟩)
      = scores2 q (kDeq k (2 * c) (by omega) X U Z) (kDeq k (2 * c + 1) (by omega) X U Z) (ix2 r j)
  | 0, h, d, c, hc, hn, r, j => absurd hc (by omega)
  | n + 1, h, d, c, hc, hn, r, j => by
    unfold sChunks
    by_cases e : c = 31 - (n + 1)
    · subst e
      have hj := j.isLt
      rw [sChunks_below k q X U Z n _ _ r _ (by show 256 * (31 - (n + 1)) + j.val < 256 * (31 - n); omega), ← emb_rS _ hc, upd_emb]
    · exact sChunks_apply n _ _ c hc (by omega) r j

variable (kt : Vec F S1x1x128x128 .bf16) (d : Vec F S8x8192 .f32)

/-- The score at place `256 c + j`: chunk `c`'s. -/
theorem sAll_chunk (c : ℕ) (hc : c < 31) (r : Fin 8) (j : Fin 256) :
    sAll k q X U Z kt d (ix2 r ⟨256 * c + j.val, by have := j.isLt; omega⟩)
      = scores2 q (kDeq k (2 * c) (by omega) X U Z) (kDeq k (2 * c + 1) (by omega) X U Z) (ix2 r j) := by
  have hj := j.isLt
  unfold sAll
  rw [upd_of_ne, upd_of_ne, sChunks_apply k q X U Z 31 _ d c hc (by omega) r j]
  · intro x
    obtain ⟨a, b, rfl⟩ := ix2_eta x
    rw [emb_rSl]
    exact ix2_snd_ne (by show 7936 + b.val ≠ 256 * c + j.val; omega)
  · intro x
    obtain ⟨a, b, rfl⟩ := ix2_eta x
    rw [emb_rSt]
    exact ix2_snd_ne (by show 8064 + b.val ≠ 256 * c + j.val; omega)

/-- The score at place `7936 + j`: the last tile's. -/
theorem sAll_last (r : Fin 8) (j : Fin 128) :
    sAll k q X U Z kt d (ix2 r ⟨7936 + j.val, by have := j.isLt; omega⟩) = scores1 q (kDeq k 62 (by decide) X U Z) (ix2 r j) := by
  have hj := j.isLt
  unfold sAll
  rw [upd_of_ne, ← emb_rSl, upd_emb]
  intro x
  obtain ⟨a, b, rfl⟩ := ix2_eta x
  rw [emb_rSt]
  exact ix2_snd_ne (by show 8064 + b.val ≠ 7936 + j.val; omega)

/-- The score at place `8064 + j`: the tail's. -/
theorem sAll_tail (r : Fin 8) (j : Fin 128) :
    sAll k q X U Z kt d (ix2 r ⟨8064 + j.val, by have := j.isLt; omega⟩) = scoresT q kt (ix2 r j) := by
  unfold sAll
  rw [← emb_rSt, upd_emb]
  exact congrArg (fun f => scoresT q f (ix2 r j)) (funext fun x => congrArg kt (emb_whole (s := S1x1x128x128) _ _ x))

end Scores

/-- The scores depend on the scratch only through the columns the scales are written to, and not on what their
    buffer held. -/
theorem sAll_congr (k : Fin 4) (q : FVec F S8x128 .bf16) (X : Vec F S1x1x64x8064 .i8) (U U' Z Z' : Vec F S128x1024 .bf16)
    (hU : Agree U U') (hZ : Agree Z Z') (kt : Vec F S1x1x128x128 .bf16) (d d' : Vec F S8x8192 .f32) :
    sAll (BitVec.ofNat 32 k.val) q X U Z kt d = sAll (BitVec.ofNat 32 k.val) q X U' Z' kt d' := by
  funext y
  obtain ⟨r, ⟨p, hp⟩, rfl⟩ := ix2_eta y
  by_cases h1 : p < 7936
  · have e : p = 256 * (p / 256) + p % 256 := by omega
    have hc : p / 256 < 31 := by omega
    have a1 := sAll_chunk (BitVec.ofNat 32 k.val) q X U Z kt d (p / 256) hc r ⟨p % 256, by omega⟩
    have a2 := sAll_chunk (BitVec.ofNat 32 k.val) q X U' Z' kt d' (p / 256) hc r ⟨p % 256, by omega⟩
    simp only [← e] at a1 a2
    rw [a1, a2, kDeq_congr k _ _ X U U' Z Z' hU hZ, kDeq_congr k _ _ X U U' Z Z' hU hZ]
  by_cases h2 : p < 8064
  · have e : 7936 + (p - 7936) = p := by omega
    have a1 := sAll_last (BitVec.ofNat 32 k.val) q X U Z kt d r ⟨p - 7936, by omega⟩
    have a2 := sAll_last (BitVec.ofNat 32 k.val) q X U' Z' kt d' r ⟨p - 7936, by omega⟩
    simp only [e] at a1 a2
    rw [a1, a2, kDeq_congr k _ _ X U U' Z Z' hU hZ]
  · have e : 8064 + (p - 8064) = p := by omega
    have a1 := sAll_tail (BitVec.ofNat 32 k.val) q X U Z kt d r ⟨p - 8064, by omega⟩
    have a2 := sAll_tail (BitVec.ofNat 32 k.val) q X U' Z' kt d' r ⟨p - 8064, by omega⟩
    simp only [e] at a1 a2
    rw [a1, a2]

/-- Scratch contents holding the transposed scales `x`, on the columns they are written to. -/
def Holds (U : Vec F S128x1024 .bf16) (x : Vec F S1x1008x128 .bf16) : Prop := ∀ (d : Fin 128) (j : Fin 1008),
  U (ix2 d ⟨j.val, by have := j.isLt; omega⟩) = tVal x (ix2 d j)

theorem emb_rT (d : Fin 128) (j : Fin 1008) : rT.emb (ix2 d j) = ix2 d ⟨j.val, by have := j.isLt; omega⟩ :=
  funext fun
    | ⟨0, _⟩ => Fin.ext ((Nat.zero_add _).trans (Nat.one_mul _))
    | ⟨1, _⟩ => Fin.ext ((Nat.zero_add _).trans (Nat.one_mul _))

theorem holds_upd (U : Vec F S128x1024 .bf16) (x : Vec F S1x1008x128 .bf16) : Holds (upd U rT (tVal x)) x := fun d j => by
  rw [← emb_rT, upd_emb]

/-- Some contents holding the transposed scales `x`. -/
def scr (x : Vec F S1x1008x128 .bf16) : Vec F S128x1024 .bf16 := upd (fun _ => FloatOps.ofBits .bf16 0x0000#16) rT (tVal x)

/-- The result of a point: of its blocks only. -/
def yT (i : grid0.Coords) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16) :
    FVec F S1x8x128 .f32 :=
  yOut i x0 x1 x2 x3 x6 x7 x8 x9 x10 (scr x4) (scr x5) (fun _ => FloatOps.ofBits .f32 0x00000000#32)

/-- With the transposed scales in the scratch, the body's result is that of its blocks. -/
theorem yOut_eq (i : grid0.Coords) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (U Z : Vec F S128x1024 .bf16) (d : Vec F S8x8192 .f32) (hU : Holds U x4) (hZ : Holds Z x5) :
    yOut i x0 x1 x2 x3 x6 x7 x8 x9 x10 U Z d = yT i x0 x1 x2 x3 x4 x5 x6 x7 x8 x9 x10 := by
  unfold yT yOut
  rw [sAll_congr (i 1) (qOf x0) x3 U (scr x4) Z (scr x5) (fun a j => (hU a j).trans (holds_upd _ x4 a j).symm)
    (fun a j => (hZ a j).trans (holds_upd _ x5 a j).symm) x9 d (fun _ => FloatOps.ofBits .f32 0x00000000#32)]

end Cert.Kernel.Body

end
-- ==== Proof.Kernel.Run.lean ====
/- The body at a point of the grid, from its blocks to its results, and the run of the whole kernel: it ends, leaves its
   arguments alone, and its result arrays hold what the points wrote back. -/
module

public import proofs.«01_k».proof.Proof.Kernel.Blocks
public import proofs.«01_k».proof.Proof.Kernel.Cols
public import Idealize.ShloMosaic.Lib.Pipeline.TableIdle
public import Idealize.ShloMosaic.Lib.Claim

@[expose] public section

set_option synthInstance.maxSize 4096

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body over its operands -/

section Runs

variable (c : Dev nD) {E : Set ℕ} {Q : PUnit.{1} → sProp (MT nD τ sig Unit (Elt F) ℕ (UR sig nD τ) ℕ)} (R : Refs) (i : grid0.Coords)

/-- The body at a batch's first head: from its blocks, whatever its results' and scratch buffers hold, it runs with the
    result of the point, the new rows rounded and the scales transposed in them. -/
theorem run_A (hc : k0_cond1 i = 1#1) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (d13 : Vec F S1x8x128 .f32) (d14 d15 : Vec F S1x4x128 .bf16) (U Z : Vec F S128x1024 .bf16) (d : Vec F S8x8192 .f32) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg14 fullShare d14 ∗ owns (c : Thread nD τ) R.arg15 fullShare d15 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yT i x0 x1 x2 x3 x4 x5 x6 x7 x8 x9 x10) ∗ owns (c : Thread nD τ) R.arg14 fullShare (newVal x1) ∗ owns (c : Thread nD τ) R.arg15 fullShare (newVal x2) ∗ owns (c : Thread nD τ) R.arg16 fullShare (upd U rT (tVal x4)) ∗ owns (c : Thread nD τ) R.arg17 fullShare (upd Z rT (tVal x5)) ∗ (∃ d', owns (c : Thread nD τ) R.arg18 fullShare d'))
          -∗ Q ⟨⟩) -∗ wp frame (wpE (defs₀ (F := F)) Variants.none c none) E (printed R i) Q) := by
  rw [printed_A R i hc]
  iintro ⟨H2, H3, H4, H5, H6, H7, H8, H9, H10, H11, H12, H13, H14, H15, H16, H17, H18⟩ Hk
  iapply (wp_head c R (main R i) x1 x2 x4 x5 d14 d15 U Z) $$ [H3 H4 H6 H7 H14 H15 H16 H17]
  · isplitl [H3]
    · iexact H3
    isplitl [H4]
    · iexact H4
    isplitl [H6]
    · iexact H6
    isplitl [H7]
    · iexact H7
    isplitl [H14]
    · iexact H14
    isplitl [H15]
    · iexact H15
    isplitl [H16]
    · iexact H16
    iexact H17
  iintro ⟨H3, H4, H6, H7, H14, H15, H16, H17⟩
  iapply (wp_main c R i x0 x1 x2 x3 x6 x7 x8 x9 x10 d13 (upd U rT (tVal x4)) (upd Z rT (tVal x5)) d) $$ [H2 H3 H4 H5 H8 H9 H10 H11 H12 H13 H16 H17 H18]
  · isplitl [H2]
    · iexact H2
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    isplitl [H16]
    · iexact H16
    isplitl [H17]
    · iexact H17
    iexact H18
  rw [yOut_eq i x0 x1 x2 x3 x4 x5 x6 x7 x8 x9 x10 _ _ d (holds_upd U x4) (holds_upd Z x5)]
  iintro ⟨H2, H3, H4, H5, H8, H9, H10, H11, H12, H13, H16, H17, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  iexists _
  iexact H18

/-- The body at a batch's other heads: with the batch's scales transposed in the scratch it runs with the result of the
    point in the result's buffer, the rest as it was. -/
theorem run_B (hc : ¬ k0_cond1 i = 1#1) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (d13 : Vec F S1x8x128 .f32) (d14 d15 : Vec F S1x4x128 .bf16) (U Z : Vec F S128x1024 .bf16) (d : Vec F S8x8192 .f32) (hU : Holds U x4) (hZ : Holds Z x5) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg14 fullShare d14 ∗ owns (c : Thread nD τ) R.arg15 fullShare d15 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yT i x0 x1 x2 x3 x4 x5 x6 x7 x8 x9 x10) ∗ owns (c : Thread nD τ) R.arg14 fullShare d14 ∗ owns (c : Thread nD τ) R.arg15 fullShare d15 ∗ owns (c : Thread nD τ) R.arg16 fullShare U ∗ owns (c : Thread nD τ) R.arg17 fullShare Z ∗ (∃ d', owns (c : Thread nD τ) R.arg18 fullShare d'))
          -∗ Q ⟨⟩) -∗ wp frame (wpE (defs₀ (F := F)) Variants.none c none) E (printed R i) Q) := by
  rw [printed_B R i hc]
  iintro ⟨H2, H3, H4, H5, H6, H7, H8, H9, H10, H11, H12, H13, H14, H15, H16, H17, H18⟩ Hk
  iapply (wp_main c R i x0 x1 x2 x3 x6 x7 x8 x9 x10 d13 U Z d) $$ [H2 H3 H4 H5 H8 H9 H10 H11 H12 H13 H16 H17 H18]
  · isplitl [H2]
    · iexact H2
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    isplitl [H16]
    · iexact H16
    isplitl [H17]
    · iexact H17
    iexact H18
  rw [yOut_eq i x0 x1 x2 x3 x4 x5 x6 x7 x8 x9 x10 _ _ d hU hZ]
  iintro ⟨H2, H3, H4, H5, H8, H9, H10, H11, H12, H13, H16, H17, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  iexists _
  iexact H18

end Runs

variable (m : (ℓ : Loc nD τ sig) → Buf (Elt F) ℓ) (ρ : Dev nD → PrngReg)

/-! ## The points -/

/-- The operands of the body at a point. -/
def refsAt (t : Fin cfg0.N) : Refs where
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)
  arg8 := win0_6.stage (cfg0.slots t 6)
  harg8 := hstage0_6 ((cfg0.slots t 6).cast nbuf0_6)
  arg9 := win0_7.stage (cfg0.slots t 7)
  harg9 := hstage0_7 ((cfg0.slots t 7).cast nbuf0_7)
  arg10 := win0_8.stage (cfg0.slots t 8)
  harg10 := hstage0_8 ((cfg0.slots t 8).cast nbuf0_8)
  arg11 := win0_9.stage (cfg0.slots t 9)
  harg11 := hstage0_9 ((cfg0.slots t 9).cast nbuf0_9)
  arg12 := win0_10.stage (cfg0.slots t 10)
  harg12 := hstage0_10 ((cfg0.slots t 10).cast nbuf0_10)
  arg13 := win0_11.stage (cfg0.slots t 11)
  harg13 := hstage0_11 ((cfg0.slots t 11).cast nbuf0_11)
  arg14 := win0_12.stage (cfg0.slots t 12)
  harg14 := hstage0_12 ((cfg0.slots t 12).cast nbuf0_12)
  arg15 := win0_13.stage (cfg0.slots t 13)
  harg15 := hstage0_13 ((cfg0.slots t 13).cast nbuf0_13)
  arg16 := Memref.whole cc0_scratch0
  harg16 := Memref.isWhole_whole _
  arg17 := Memref.whole cc0_scratch1
  harg17 := Memref.isWhole_whole _
  arg18 := Memref.whole cc0_scratch2
  harg18 := Memref.isWhole_whole _

/-- A point is its batch's first head exactly if it is a multiple of four. -/
theorem first_iff (t : Fin cfg0.N) : k0_cond1 (grid0.coords t) = 1#1 ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [k0_cond1, e0, e1]
  word_cmp

/-- The result of a point. -/
def yAt (c : Dev nD) (t : Fin cfg0.N) : FVec F S1x8x128 .f32 :=
  yT (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the scratch holds between points: before the first point anything; afterwards the point before's scales,
    transposed. -/
def scratch (c : Dev nD) (n : ℕ) : sProp 𝕄 :=
  iprop((∃ U Z, ⌜∀ h : n - 1 < cfg0.N, n ≠ 0 → Holds U (iblk m c 4 ⟨n - 1, h⟩) ∧ Holds Z (iblk m c 5 ⟨n - 1, h⟩)⌝
      ∗ owns (c : Thread nD τ) (Memref.whole cc0_scratch0) fullShare U ∗ owns (c : Thread nD τ) (Memref.whole cc0_scratch1) fullShare Z
      ∗ (∃ d, owns (c : Thread nD τ) (Memref.whole cc0_scratch2) fullShare d)) ∗ (∃ r, prngReg c r))

/-- The pipeline's proof data: each input's buffer at its block, each result's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => newVal (iblk m c 1 t)
    | ⟨13, _⟩ => newVal (iblk m c 2 t)
  Φ t := scratch m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = yAt m c t := by dsimp only [dats]
theorem after12 (c : Dev nD) (t : Fin cfg0.N) : (dats m 0 c).after 12 t = newVal (iblk m c 1 t) := by dsimp only [dats]
theorem after13 (c : Dev nD) (t : Fin cfg0.N) : (dats m 0 c).after 13 t = newVal (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem idle12 (t : Fin cfg0.N) : cfg0.idle 12 (cfg0.grid.coords t) = !decide (t.val % 4 = 0) := by
  show (!(k0_cond1 (grid0.coords t) == 1#1)) = _
  by_cases h : t.val % 4 = 0
  · rw [(first_iff t).mpr h]; simp [h]
  · have h' : k0_cond1 (grid0.coords t) ≠ 1#1 := fun e => h ((first_iff t).mp e)
    simp [h, h']

/-- The buffer of result 12 is fresh at a batch's first head only. -/
theorem fresh12 : ∀ (n : ℕ) (hn : n < cfg0.N), cfg0.fresh 12 n = decide (n % 4 = 0)
  | 0, _ => rfl
  | n + 1, hn => by
    have hn' : n < cfg0.N := by omega
    rw [Cfg.fresh_succ cfg0 12 n hn', idle12 ⟨n, hn'⟩, fresh12 n hn']
    have hf := flush0_12 ⟨n, hn'⟩
    cases hb : (cfg0.win 12).flush ⟨n, hn'⟩
    · have h3 : n % 4 ≠ 3 := fun e => Bool.false_ne_true (hb.symm.trans (hf.mpr e))
      have h4 : ¬ (n + 1) % 4 = 0 := by omega
      by_cases h0 : n % 4 = 0 <;> simp [h0, h4]
    · have h3 : n % 4 = 3 := hf.mp hb
      have h4 : (n + 1) % 4 = 0 := by omega
      simp [h4]

/-- At a batch's other heads the buffer of result 12 holds what the first left. -/
theorem before12 (c : Dev nD) (t : Fin cfg0.N) (h0 : ¬ t.val % 4 = 0) (d) : (dats m 0 c).before 12 t d = newVal (iblk m c 1 t) := by
  have hb : ∀ t : Fin cfg0.N, ¬ t.val % 4 = 0 → ∀ h, (dats m 0 c).after 12 ⟨t.val - 1, h⟩ = (dats m 0 c).after 12 t := by
    intro t h0 h
    rw [after12, after12, iblk1_bat m c ⟨t.val - 1, h⟩ t (Fin.ext (by show (t.val - 1) / 4 = t.val / 4; omega))]
  rw [(dats m 0 c).before_out_traj 12 rfl (fun _ _ => rfl) (fun t ht hi hf => (hb t (by
      rw [fresh12 t.val t.isLt] at hf; exact of_decide_eq_false hf) _).symm) t.val t rfl d,
    fresh12 t.val t.isLt, decide_eq_false h0, if_neg Bool.false_ne_true, hb t h0, after12]

theorem idle13 (t : Fin cfg0.N) : cfg0.idle 13 (cfg0.grid.coords t) = !decide (t.val % 4 = 0) := by
  show (!(k0_cond1 (grid0.coords t) == 1#1)) = _
  by_cases h : t.val % 4 = 0
  · rw [(first_iff t).mpr h]; simp [h]
  · have h' : k0_cond1 (grid0.coords t) ≠ 1#1 := fun e => h ((first_iff t).mp e)
    simp [h, h']

/-- The buffer of result 13 is fresh at a batch's first head only. -/
theorem fresh13 : ∀ (n : ℕ) (hn : n < cfg0.N), cfg0.fresh 13 n = decide (n % 4 = 0)
  | 0, _ => rfl
  | n + 1, hn => by
    have hn' : n < cfg0.N := by omega
    rw [Cfg.fresh_succ cfg0 13 n hn', idle13 ⟨n, hn'⟩, fresh13 n hn']
    have hf := flush0_13 ⟨n, hn'⟩
    cases hb : (cfg0.win 13).flush ⟨n, hn'⟩
    · have h3 : n % 4 ≠ 3 := fun e => Bool.false_ne_true (hb.symm.trans (hf.mpr e))
      have h4 : ¬ (n + 1) % 4 = 0 := by omega
      by_cases h0 : n % 4 = 0 <;> simp [h0, h4]
    · have h3 : n % 4 = 3 := hf.mp hb
      have h4 : (n + 1) % 4 = 0 := by omega
      simp [h4]

/-- At a batch's other heads the buffer of result 13 holds what the first left. -/
theorem before13 (c : Dev nD) (t : Fin cfg0.N) (h0 : ¬ t.val % 4 = 0) (d) : (dats m 0 c).before 13 t d = newVal (iblk m c 2 t) := by
  have hb : ∀ t : Fin cfg0.N, ¬ t.val % 4 = 0 → ∀ h, (dats m 0 c).after 13 ⟨t.val - 1, h⟩ = (dats m 0 c).after 13 t := by
    intro t h0 h
    rw [after13, after13, iblk2_bat m c ⟨t.val - 1, h⟩ t (Fin.ext (by show (t.val - 1) / 4 = t.val / 4; omega))]
  rw [(dats m 0 c).before_out_traj 13 rfl (fun _ _ => rfl) (fun t ht hi hf => (hb t (by
      rw [fresh13 t.val t.isLt] at hf; exact of_decide_eq_false hf) _).symm) t.val t rfl d,
    fresh13 t.val t.isLt, decide_eq_false h0, if_neg Bool.false_ne_true, hb t h0, after13]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (refsAt t).arg2 fullShare ((dats m 0 c).before 0 t d))
    ∗ (∃ d, owns (c : Thread nD τ) (refsAt t).arg3 fullShare ((dats m 0 c).before 1 t d))
    ∗ (∃ d, owns (c : Thread nD τ) (refsAt t).arg4 fullShare ((dats m 0 c).before 2 t d))
    ∗ (∃ d, owns (c : Thread nD τ) (refsAt t).arg5 fullShare ((dats m 0 c).before 3 t d))
    ∗ (∃ d, owns (c : Thread nD τ) (refsAt t).arg6 fullShare ((dats m 0 c).before 4 t d))
    ∗ (∃ d, owns (c : Thread nD τ) (refsAt t).arg7 fullShare ((dats m 0 c).before 5 t d))
    ∗ (∃ d, owns (c : Thread nD τ) (refsAt t).arg8 fullShare ((dats m 0 c).before 6 t d))
    ∗ (∃ d, owns (c : Thread nD τ) (refsAt t).arg9 fullShare ((dats m 0 c).before 7 t d))
    ∗ (∃ d, owns (c : Thread nD τ) (refsAt t).arg10 fullShare ((dats m 0 c).before 8 t d))
    ∗ (∃ d, owns (c : Thread nD τ) (refsAt t).arg11 fullShare ((dats m 0 c).before 9 t d))
    ∗ (∃ d, owns (c : Thread nD τ) (refsAt t).arg12 fullShare ((dats m 0 c).before 10 t d))
    ∗ (∃ d, owns (c : Thread nD τ) (refsAt t).arg13 fullShare ((dats m 0 c).before 11 t d))
    ∗ (∃ d, owns (c : Thread nD τ) (refsAt t).arg14 fullShare ((dats m 0 c).before 12 t d))
    ∗ (∃ d, owns (c : Thread nD τ) (refsAt t).arg15 fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0 (c : Dev nD) (t : Fin cfg0.N) :
    (dats m 0 c).leavesExact 0 t = owns (c : Thread nD τ) (refsAt t).arg2 fullShare (iblk m c 0 t) := by
  unfold Dat.leavesExact; rw [show cfg0.idle 0 (cfg0.grid.coords t) = false from rfl, after0]; rfl
theorem leaves1 (c : Dev nD) (t : Fin cfg0.N) :
    (dats m 0 c).leavesExact 1 t = owns (c : Thread nD τ) (refsAt t).arg3 fullShare (iblk m c 1 t) := by
  unfold Dat.leavesExact; rw [show cfg0.idle 1 (cfg0.grid.coords t) = false from rfl, after1]; rfl
theorem leaves2 (c : Dev nD) (t : Fin cfg0.N) :
    (dats m 0 c).leavesExact 2 t = owns (c : Thread nD τ) (refsAt t).arg4 fullShare (iblk m c 2 t) := by
  unfold Dat.leavesExact; rw [show cfg0.idle 2 (cfg0.grid.coords t) = false from rfl, after2]; rfl
theorem leaves3 (c : Dev nD) (t : Fin cfg0.N) :
    (dats m 0 c).leavesExact 3 t = owns (c : Thread nD τ) (refsAt t).arg5 fullShare (iblk m c 3 t) := by
  unfold Dat.leavesExact; rw [show cfg0.idle 3 (cfg0.grid.coords t) = false from rfl, after3]; rfl
theorem leaves4 (c : Dev nD) (t : Fin cfg0.N) :
    (dats m 0 c).leavesExact 4 t = owns (c : Thread nD τ) (refsAt t).arg6 fullShare (iblk m c 4 t) := by
  unfold Dat.leavesExact; rw [show cfg0.idle 4 (cfg0.grid.coords t) = false from rfl, after4]; rfl
theorem leaves5 (c : Dev nD) (t : Fin cfg0.N) :
    (dats m 0 c).leavesExact 5 t = owns (c : Thread nD τ) (refsAt t).arg7 fullShare (iblk m c 5 t) := by
  unfold Dat.leavesExact; rw [show cfg0.idle 5 (cfg0.grid.coords t) = false from rfl, after5]; rfl
theorem leaves6 (c : Dev nD) (t : Fin cfg0.N) :
    (dats m 0 c).leavesExact 6 t = owns (c : Thread nD τ) (refsAt t).arg8 fullShare (iblk m c 6 t) := by
  unfold Dat.leavesExact; rw [show cfg0.idle 6 (cfg0.grid.coords t) = false from rfl, after6]; rfl
theorem leaves7 (c : Dev nD) (t : Fin cfg0.N) :
    (dats m 0 c).leavesExact 7 t = owns (c : Thread nD τ) (refsAt t).arg9 fullShare (iblk m c 7 t) := by
  unfold Dat.leavesExact; rw [show cfg0.idle 7 (cfg0.grid.coords t) = false from rfl, after7]; rfl
theorem leaves8 (c : Dev nD) (t : Fin cfg0.N) :
    (dats m 0 c).leavesExact 8 t = owns (c : Thread nD τ) (refsAt t).arg10 fullShare (iblk m c 8 t) := by
  unfold Dat.leavesExact; rw [show cfg0.idle 8 (cfg0.grid.coords t) = false from rfl, after8]; rfl
theorem leaves9 (c : Dev nD) (t : Fin cfg0.N) :
    (dats m 0 c).leavesExact 9 t = owns (c : Thread nD τ) (refsAt t).arg11 fullShare (iblk m c 9 t) := by
  unfold Dat.leavesExact; rw [show cfg0.idle 9 (cfg0.grid.coords t) = false from rfl, after9]; rfl
theorem leaves10 (c : Dev nD) (t : Fin cfg0.N) :
    (dats m 0 c).leavesExact 10 t = owns (c : Thread nD τ) (refsAt t).arg12 fullShare (iblk m c 10 t) := by
  unfold Dat.leavesExact; rw [show cfg0.idle 10 (cfg0.grid.coords t) = false from rfl, after10]; rfl
theorem leaves11 (c : Dev nD) (t : Fin cfg0.N) :
    (dats m 0 c).leavesExact 11 t = owns (c : Thread nD τ) (refsAt t).arg13 fullShare (yAt m c t) := by
  unfold Dat.leavesExact; rw [show cfg0.idle 11 (cfg0.grid.coords t) = false from rfl, after11]; rfl
theorem leaves12_A (c : Dev nD) (t : Fin cfg0.N) (h0 : t.val % 4 = 0) :
    (dats m 0 c).leavesExact 12 t = owns (c : Thread nD τ) (refsAt t).arg14 fullShare (newVal (iblk m c 1 t)) := by
  unfold Dat.leavesExact; rw [idle12, decide_eq_true h0, after12]; rfl
theorem leaves12_B (c : Dev nD) (t : Fin cfg0.N) (h0 : ¬ t.val % 4 = 0) :
    owns (c : Thread nD τ) (refsAt t).arg14 fullShare (newVal (iblk m c 1 t)) ⊢ (dats m 0 c).leavesExact 12 t := by
  unfold Dat.leavesExact
  rw [idle12, decide_eq_false h0, Bool.not_false]
  cases hf : (cfg0.win 12).flush t
  · iintro H
    iexists (fun _ => Classical.arbitrary _)
    rw [before12 m c t h0]
    iexact H
  · rw [after12]
    exact Idealize.SL.BI.Entails.refl _
theorem leaves13_A (c : Dev nD) (t : Fin cfg0.N) (h0 : t.val % 4 = 0) :
    (dats m 0 c).leavesExact 13 t = owns (c : Thread nD τ) (refsAt t).arg15 fullShare (newVal (iblk m c 2 t)) := by
  unfold Dat.leavesExact; rw [idle13, decide_eq_true h0, after13]; rfl
theorem leaves13_B (c : Dev nD) (t : Fin cfg0.N) (h0 : ¬ t.val % 4 = 0) :
    owns (c : Thread nD τ) (refsAt t).arg15 fullShare (newVal (iblk m c 2 t)) ⊢ (dats m 0 c).leavesExact 13 t := by
  unfold Dat.leavesExact
  rw [idle13, decide_eq_false h0, Bool.not_false]
  cases hf : (cfg0.win 13).flush t
  · iintro H
    iexists (fun _ => Classical.arbitrary _)
    rw [before13 m c t h0]
    iexact H
  · rw [after13]
    exact Idealize.SL.BI.Entails.refl _

/-- The body at any point. -/
theorem sound_body (c : Dev nD) (t : Fin cfg0.N) :
    bodyPre m c t ⊢ wp frame (wpE (defs₀ (F := F)) Variants.none c none) Set.univ (printed (refsAt t) (grid0.coords t)) (fun _ => bodyPost m c t) := by
  unfold bodyPre bodyPost
  simp only [before0, before1, before2, before3, before4, before5, before6, before7, before8, before9, before10]
  rw [show (dats m 0 c).owesAt () t.succ = (dats m 0 c).owesAt () t.castSucc from rfl]
  rw [show (dats m 0 c).Φ t.succ = scratch m c (t.val + 1) from rfl, show (dats m 0 c).Φ t.castSucc = scratch m c t.val from rfl]
  rw [leaves0, leaves1, leaves2, leaves3, leaves4, leaves5, leaves6, leaves7, leaves8, leaves9, leaves10, leaves11]
  unfold scratch yAt
  by_cases h0 : t.val % 4 = 0
  · rw [leaves12_A m c t h0, leaves13_A m c t h0]
    iintro ⟨⟨⟨%U, %Z, %hUZ, H16, H17, ⟨%d, H18⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_A c (refsAt t) (grid0.coords t) ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ U Z d) $$ [H2 H3 H4 H5 H6 H7 H8 H9 H10 H11 H12 H13 H14 H15 H16 H17 H18]
    · isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    iintro ⟨H2, H3, H4, H5, H6, H7, H8, H9, H10, H11, H12, H13, H14, H15, H16, H17, H18⟩
    isplitl [H16 H17 H18 Hg]
    · isplitl [H16 H17 H18]
      · iexists _
        iexists _
        isplitr
        swap
        · isplitl [H16]
          · iexact H16
          isplitl [H17]
          · iexact H17
          iexact H18
        · ipureintro
          intro h hn
          exact ⟨holds_upd _ _, holds_upd _ _⟩
      iexact Hg
    isplitl [Ho]
    · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    iexact H15
  · have hlt := t.isLt
    have hb : bat ⟨t.val - 1, by omega⟩ = bat t := Fin.ext (by show (t.val - 1) / 4 = t.val / 4; omega)
    simp only [before12 m c t h0, before13 m c t h0]
    iintro ⟨⟨⟨%U, %Z, %hUZ, H16, H17, ⟨%d, H18⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain ⟨hU, hZ⟩ := hUZ (by omega) (by omega)
    rw [iblk4_bat m c ⟨t.val - 1, by omega⟩ t hb] at hU
    rw [iblk5_bat m c ⟨t.val - 1, by omega⟩ t hb] at hZ
    iapply (run_B c (refsAt t) (grid0.coords t) (fun e => h0 ((first_iff t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ U Z d hU hZ) $$ [H2 H3 H4 H5 H6 H7 H8 H9 H10 H11 H12 H13 H14 H15 H16 H17 H18]
    · isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    iintro ⟨H2, H3, H4, H5, H6, H7, H8, H9, H10, H11, H12, H13, H14, H15, H16, H17, H18⟩
    isplitl [H16 H17 H18 Hg]
    · isplitl [H16 H17 H18]
      · iexists _
        iexists _
        isplitr
        swap
        · isplitl [H16]
          · iexact H16
          isplitl [H17]
          · iexact H17
          iexact H18
        · ipureintro
          intro h hn
          exact ⟨hU, hZ⟩
      iexact Hg
    isplitl [Ho]
    · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iapply (leaves12_B m c t h0)
      iexact H14
    iapply (leaves13_B m c t h0)
    iexact H15

theorem defs₀_row (t : Fin cfg0.N) :
    defs₀ (F := F) .tc cfg0.body (cfg0.bodyArgs t (cfg0.slots t)) = printed (refsAt t) (grid0.coords t) := by
  unfold defs₀; rw [Defs.onTc_tc]; rfl

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch between points as the launch hands it over and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = scratch m c 0 from rfl, scratch_eq]
  unfold scratch
  iintro ⟨⟨⟨%U, H16⟩, ⟨%Z, H17⟩, H18⟩, Hg⟩
  isplitl [H16 H17 H18]
  · iexists U
    iexists Z
    isplitr
    · ipureintro
      exact fun _ h => absurd rfl h
    isplitl [H16]
    · iexact H16
    isplitl [H17]
    · iexact H17
    iexact H18
  iexact Hg

theorem hout (c : Dev nD) : (dats m 0 c).Φ (Fin.last cfg0.N) ⊢ Pipeline.ΦA spec0 c := by
  rw [show (dats m 0 c).Φ (Fin.last cfg0.N) = scratch m c cfg0.N from rfl, scratch_eq]
  unfold scratch
  iintro ⟨⟨%U, %Z, -, H16, H17, H18⟩, Hg⟩
  isplitl [H16 H17 H18]
  · isplitl [H16]
    · iexists _; iexact H16
    isplitl [H17]
    · iexists _; iexact H17
    iexact H18
  iexact Hg

-- the implicit arguments are found by unifying the conclusion with this one
set_option backward.isDefEq.respectTransparency.types false in
set_option maxHeartbeats 800000 in
/-- The run: every execution ends with the windows' arrays as the points left them, the other buffers as the host lines
    leave them, and every counter at zero. -/
theorem run_main : θ_run defs (onTc (τ := τ) (Cert.Kernel.main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ Cert.Kernel.main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run leaves the arguments as they were, and every counter at zero. -/
theorem frame : θ_run defs (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Body

end
-- ==== Proof.KernelIdeal.Blocks.lean ====
/- The pipeline's windows, read at a point of the grid: point `t` is head `t % 4` of batch `t / 4`. -/
module

public import proofs.«01_k».proof.Proof.Gen.KernelIdeal.Frame
public import Idealize.ShloMosaic.Lib.ValueLayout

@[expose] public section

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The batch of a point. -/
def bat (t : Fin cfg0.N) : Fin 16 := ⟨t.val / 4, by have h : t.val < 64 := lt_of_lt_of_eq t.isLt (show cfg0.N = 64 from N_0); omega⟩

/-- The head of a point. -/
def hd (t : Fin cfg0.N) : Fin 4 := ⟨t.val % 4, by omega⟩

theorem coords0 (t : Fin cfg0.N) : (grid0.coords t 0).val = (bat t).val := by
  have h : t.val < 64 := lt_of_lt_of_eq t.isLt (show cfg0.N = 64 from N_0)
  rw [Pipeline.Grid.coords_val t 0 (S := 4) (B := 16) (by decide) rfl]
  show t.val / 4 % 16 = t.val / 4
  omega

theorem coords1 (t : Fin cfg0.N) : (grid0.coords t 1).val = (hd t).val := by
  rw [Pipeline.Grid.coords_val t 1 (S := 1) (B := 4) (by decide) rfl]
  show t.val / 1 % 4 = t.val % 4
  omega

theorem idx0 (t : Fin cfg0.N) : (BitVec.ofNat 32 (grid0.coords t 0).val).toNat = (bat t).val := by
  rw [coords0, BitVec.toNat_ofNat]
  have := (bat t).isLt
  omega

theorem idx1 (t : Fin cfg0.N) : (BitVec.ofNat 32 (grid0.coords t 1).val).toNat = (hd t).val := by
  rw [coords1, BitVec.toNat_ofNat]
  have := (hd t).isLt
  omega

/-- Window 0's block at a point, read off its array. -/
theorem iblk0 (c : Dev nD) (t : Fin cfg0.N) :
    iblk m c 0 t = fun x : S1x8x128.Idx => V m c main_v0 (ix3 (bat t) ⟨8 * (hd t).val + (x 1).val, by have h1 : (x 1).val < 8 := (x 1).isLt; have h2 := (hd t).isLt; omega⟩ (x 2)) := by
  funext x
  unfold iblk
  rw [View.read_apply]
  show V m c main_v0 _ = V m c main_v0 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 8 + 1 * (x 1).val = 8 * (hd t).val + (x 1).val; rw [idx1]; omega
  | ⟨2, _⟩ => show 0 * 128 + 1 * (x 2).val = (x 2).val; omega

/-- Window 1's block at a point, read off its array. -/
theorem iblk1 (c : Dev nD) (t : Fin cfg0.N) :
    iblk m c 1 t = fun x : S1x4x128.Idx => V m c main_v1 (ix3 (bat t) (x 1) (x 2)) := by
  funext x
  unfold iblk
  rw [View.read_apply]
  show V m c main_v1 _ = V m c main_v1 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 4 + 1 * (x 1).val = (x 1).val; omega
  | ⟨2, _⟩ => show 0 * 128 + 1 * (x 2).val = (x 2).val; omega

/-- Window 2's block at a point, read off its array. -/
theorem iblk2 (c : Dev nD) (t : Fin cfg0.N) :
    iblk m c 2 t = fun x : S1x4x128.Idx => V m c main_v2 (ix3 (bat t) (x 1) (x 2)) := by
  funext x
  unfold iblk
  rw [View.read_apply]
  show V m c main_v2 _ = V m c main_v2 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 4 + 1 * (x 1).val = (x 1).val; omega
  | ⟨2, _⟩ => show 0 * 128 + 1 * (x 2).val = (x 2).val; omega

/-- Window 3's block at a point, read off its array. -/
theorem iblk3 (c : Dev nD) (t : Fin cfg0.N) :
    iblk m c 3 t = fun x : S1x1x64x8064.Idx => V m c main_v3 (ix4 (bat t) (hd t) (x 2) (x 3)) := by
  funext x
  unfold iblk
  rw [View.read_apply]
  show V m c main_v3 _ = V m c main_v3 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 64 + 1 * (x 2).val = (x 2).val; omega
  | ⟨3, _⟩ => show 0 * 8064 + 1 * (x 3).val = (x 3).val; omega

/-- Window 4's block at a point, read off its array. -/
theorem iblk4 (c : Dev nD) (t : Fin cfg0.N) :
    iblk m c 4 t = fun x : S1x1008x128.Idx => V m c main_v6 (ix3 (bat t) (x 1) (x 2)) := by
  funext x
  unfold iblk
  rw [View.read_apply]
  show V m c main_v6 _ = V m c main_v6 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 1008 + 1 * (x 1).val = (x 1).val; omega
  | ⟨2, _⟩ => show 0 * 128 + 1 * (x 2).val = (x 2).val; omega

/-- Window 5's block at a point, read off its array. -/
theorem iblk5 (c : Dev nD) (t : Fin cfg0.N) :
    iblk m c 5 t = fun x : S1x1008x128.Idx => V m c main_v8 (ix3 (bat t) (x 1) (x 2)) := by
  funext x
  unfold iblk
  rw [View.read_apply]
  show V m c main_v8 _ = V m c main_v8 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show 0 * 1008 + 1 * (x 1).val = (x 1).val; omega
  | ⟨2, _⟩ => show 0 * 128 + 1 * (x 2).val = (x 2).val; omega

/-- Window 6's block at a point, read off its array. -/
theorem iblk6 (c : Dev nD) (t : Fin cfg0.N) :
    iblk m c 6 t = fun x : S1x1x64x8064.Idx => V m c main_v4 (ix4 (bat t) (hd t) (x 2) (x 3)) := by
  funext x
  unfold iblk
  rw [View.read_apply]
  show V m c main_v4 _ = V m c main_v4 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 64 + 1 * (x 2).val = (x 2).val; omega
  | ⟨3, _⟩ => show 0 * 8064 + 1 * (x 3).val = (x 3).val; omega

/-- Window 7's block at a point, read off its array. -/
theorem iblk7 (c : Dev nD) (t : Fin cfg0.N) :
    iblk m c 7 t = fun x : S1x1x4x8064.Idx => V m c main_v9 (ix4 (bat t) (hd t) (x 2) (x 3)) := by
  funext x
  unfold iblk
  rw [View.read_apply]
  show V m c main_v9 _ = V m c main_v9 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 4 + 1 * (x 2).val = (x 2).val; omega
  | ⟨3, _⟩ => show 0 * 8064 + 1 * (x 3).val = (x 3).val; omega

/-- Window 8's block at a point, read off its array. -/
theorem iblk8 (c : Dev nD) (t : Fin cfg0.N) :
    iblk m c 8 t = fun x : S1x1x4x8064.Idx => V m c main_v10 (ix4 (bat t) (hd t) (x 2) (x 3)) := by
  funext x
  unfold iblk
  rw [View.read_apply]
  show V m c main_v10 _ = V m c main_v10 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 4 + 1 * (x 2).val = (x 2).val; omega
  | ⟨3, _⟩ => show 0 * 8064 + 1 * (x 3).val = (x 3).val; omega

/-- Window 9's block at a point, read off its array. -/
theorem iblk9 (c : Dev nD) (t : Fin cfg0.N) :
    iblk m c 9 t = fun x : S1x1x128x128.Idx => V m c main_arg9 (ix4 (bat t) (hd t) (x 2) (x 3)) := by
  funext x
  unfold iblk
  rw [View.read_apply]
  show V m c main_arg9 _ = V m c main_arg9 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 128 + 1 * (x 2).val = (x 2).val; omega
  | ⟨3, _⟩ => show 0 * 128 + 1 * (x 3).val = (x 3).val; omega

/-- Window 10's block at a point, read off its array. -/
theorem iblk10 (c : Dev nD) (t : Fin cfg0.N) :
    iblk m c 10 t = fun x : S1x1x128x128.Idx => V m c main_arg10 (ix4 (bat t) (hd t) (x 2) (x 3)) := by
  funext x
  unfold iblk
  rw [View.read_apply]
  show V m c main_arg10 _ = V m c main_arg10 _
  congr 1
  funext a
  apply Fin.ext
  match a with
  | ⟨0, _⟩ => show (BitVec.ofNat 32 (grid0.coords t 0).val).toNat * 1 + 1 * (x 0).val = (bat t).val; have h0 : (x 0).val < 1 := (x 0).isLt; rw [idx0]; omega
  | ⟨1, _⟩ => show (BitVec.ofNat 32 (grid0.coords t 1).val).toNat * 1 + 1 * (x 1).val = (hd t).val; have h0 : (x 1).val < 1 := (x 1).isLt; rw [idx1]; omega
  | ⟨2, _⟩ => show 0 * 128 + 1 * (x 2).val = (x 2).val; omega
  | ⟨3, _⟩ => show 0 * 128 + 1 * (x 3).val = (x 3).val; omega

/-- Window 1's block is the same at the points of a batch. -/
theorem iblk1_bat (c : Dev nD) (t t' : Fin cfg0.N) (h : bat t = bat t') : iblk m c 1 t = iblk m c 1 t' := by
  rw [iblk1, iblk1, h]

/-- Window 2's block is the same at the points of a batch. -/
theorem iblk2_bat (c : Dev nD) (t t' : Fin cfg0.N) (h : bat t = bat t') : iblk m c 2 t = iblk m c 2 t' := by
  rw [iblk2, iblk2, h]

/-- Window 4's block is the same at the points of a batch. -/
theorem iblk4_bat (c : Dev nD) (t t' : Fin cfg0.N) (h : bat t = bat t') : iblk m c 4 t = iblk m c 4 t' := by
  rw [iblk4, iblk4, h]

/-- Window 5's block is the same at the points of a batch. -/
theorem iblk5_bat (c : Dev nD) (t t' : Fin cfg0.N) (h : bat t = bat t') : iblk m c 5 t = iblk m c 5 t' := by
  rw [iblk5, iblk5, h]

end Cert.KernelIdeal.Body

end
-- ==== Proof.KernelIdeal.Body.lean ====
/- The kernel's body as a program over tiles: the printed body is one long sequence of statements, the same
   few operations once per tile of 128 positions. Here the operations of a tile are written once (`kTile`, `vTile`),
   the loops over the tiles are recursions (`kLoop`, `vLoop`), and `body_eq` says the printed body is that program. -/
module

public import proofs.«01_k».proof.Proof.Gen.KernelIdeal

@[expose] public section

set_option synthInstance.maxSize 4096

noncomputable section

namespace Cert.KernelIdeal.Body

open Idealize.ShloMosaic Idealize.SL.Sem Cert.KernelIdeal
open Facts₀ Facts

variable {F : FTy → Type} [FloatOps F]

/-- The operands of the body: the fourteen staging buffers and the three scratch buffers, each a whole buffer. -/
structure Refs where
  (arg2 : Memref sig .tc .vmem S1x8x128 .f32) (harg2 : arg2.IsWhole)
  (arg3 : Memref sig .tc .vmem S1x4x128 .f32) (harg3 : arg3.IsWhole)
  (arg4 : Memref sig .tc .vmem S1x4x128 .f32) (harg4 : arg4.IsWhole)
  (arg5 : Memref sig .tc .vmem S1x1x64x8064 .i8) (harg5 : arg5.IsWhole)
  (arg6 : Memref sig .tc .vmem S1x1008x128 .bf16) (harg6 : arg6.IsWhole)
  (arg7 : Memref sig .tc .vmem S1x1008x128 .bf16) (harg7 : arg7.IsWhole)
  (arg8 : Memref sig .tc .vmem S1x1x64x8064 .i8) (harg8 : arg8.IsWhole)
  (arg9 : Memref sig .tc .vmem S1x1x4x8064 .bf16) (harg9 : arg9.IsWhole)
  (arg10 : Memref sig .tc .vmem S1x1x4x8064 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .f32) (harg13 : arg13.IsWhole)
  (arg14 : Memref sig .tc .vmem S1x4x128 .bf16) (harg14 : arg14.IsWhole)
  (arg15 : Memref sig .tc .vmem S1x4x128 .bf16) (harg15 : arg15.IsWhole)
  (arg16 : Memref sig .tc .vmem S128x1024 .bf16) (harg16 : arg16.IsWhole)
  (arg17 : Memref sig .tc .vmem S128x1024 .bf16) (harg17 : arg17.IsWhole)
  (arg18 : Memref sig .tc .vmem S8x8192 .f32) (harg18 : arg18.IsWhole)

/-- A program of the kernel, returning nothing. -/
abbrev P (F : FTy → Type) [FloatOps F] := Prog (TpuEff nD τ sig (Elt F) Λ₀ .tc) PUnit

/-! ## What one tile computes -/

/-- A tile of packed codes, widened to 32-bit words. -/
def wide (w : Vec F S1x1x64x128 .i8) : IVec S64x128 32 := extui 32 (shapeCast S64x128 w shapeCasts_S1x1x64x128_S64x128) natLt_8_32

/-- The 4-bit codes of a tile: each byte's low and high half, in consecutive rows. -/
def nib (w : Vec F S1x1x64x128 .i8) : FVec F S128x128 .bf16 :=
  sitofp .bf16 (shapeCast S128x128 (concatenate S64x2x128 1
    [⟨S64x1x128, shapeCast S64x1x128 (andi (wide w) (broadcast S64x128 15#32)) shapeCasts_S64x128_S64x1x128⟩,
     ⟨S64x1x128, shapeCast S64x1x128 (shrsi (wide w) (broadcast S64x128 4#32)) shapeCasts_S64x128_S64x1x128⟩]
    concatenates_S64x1x128_S64x1x128_S64x2x128_d1) shapeCasts_S64x2x128_S128x128)

/-- The lane numbers of a tile. -/
def lanes : IVec S128x128 32 := iota .tc S128x128 32 [1] iota_S128x128_d1_w32

/-- The quantisation group of each lane of a tile: its number divided by 32, rounded down. -/
def laneGrp : IVec S128x128 32 :=
  select (andi
      (cmpi .ne (subi (extui 32 (cmpi .sgt lanes (broadcast S128x128 0#32)) natLt_1_32)
          (extui 32 (cmpi .slt lanes (broadcast S128x128 0#32)) natLt_1_32))
        (broadcast S128x128 (Scalar.subi (Scalar.extui (Scalar.cmpi .sgt 32#32 0#32)) (Scalar.extui (Scalar.cmpi .slt 32#32 0#32)))))
      (cmpi .ne (remsi lanes (broadcast S128x128 32#32)) (broadcast S128x128 0#32)))
    (subi (divsi lanes (broadcast S128x128 32#32)) (broadcast S128x128 1#32))
    (divsi lanes (broadcast S128x128 32#32))

/-- The scratch column of each lane of tile `t` for head `k`, before wrapping. -/
def gcol (t : ℕ) (k : BitVec 32) : IVec S128x128 32 :=
  addi (addi (muli laneGrp (broadcast S128x128 4#32)) (broadcast S128x128 (BitVec.ofNat 32 (16 * (t % 8))))) (broadcast S128x128 k)

/-- The scratch column of each lane of tile `t` for head `k`. -/
def gidx (t : ℕ) (k : BitVec 32) : IVec S128x128 32 :=
  shapeCast S128x128 (shapeCast S128x128x1
    (select (cmpi .slt (gcol t k) (broadcast S128x128 0#32)) (addi (gcol t k) (broadcast S128x128 128#32)) (gcol t k))
    shapeCasts_S128x128_S128x128x1) shapeCasts_S128x128x1_S128x128

/-- The scratch columns of tile `t` spread over its lanes. -/
def spread (t : ℕ) (k : BitVec 32) (s : Vec F S128x128 .bf16) : FVec F S128x128 .bf16 :=
  truncf .bf16 (dynamicGather 1 (extf .f32 s bitsLt_bf16_f32) (gidx t k)) bitsLt_bf16_f32

/-- A dequantised tile of keys. -/
def kVal (t : ℕ) (k : BitVec 32) (w : Vec F S1x1x64x128 .i8) (s z : Vec F S128x128 .bf16) : FVec F S128x128 .bf16 :=
  addf (mulf (nib w) (spread t k s)) (spread t k z)

/-- A row of scales over the 32 rows of its group. -/
def rowB (s : Vec F S1x1x1x128 .bf16) : FVec F S32x128 .bf16 :=
  broadcastTo S32x128 (shapeCast S1x128 s shapeCasts_S1x1x1x128_S1x128) broadcasts_S1x128_S32x128

/-- A dequantised tile of values. -/
def vVal (w : Vec F S1x1x64x128 .i8) (s0 z0 s1 z1 s2 z2 s3 z3 : Vec F S1x1x1x128 .bf16) : FVec F S128x128 .bf16 :=
  concatenate S128x128 0
    [⟨S32x128, addf (mulf (extractStridedSlice S32x128 ![0, 0] (nib w) slices_S128x128_o0_0_S32x128) (rowB s0)) (rowB z0)⟩,
     ⟨S32x128, addf (mulf (extractStridedSlice S32x128 ![32, 0] (nib w) slices_S128x128_o32_0_S32x128) (rowB s1)) (rowB z1)⟩,
     ⟨S32x128, addf (mulf (extractStridedSlice S32x128 ![64, 0] (nib w) slices_S128x128_o64_0_S32x128) (rowB s2)) (rowB z2)⟩,
     ⟨S32x128, addf (mulf (extractStridedSlice S32x128 ![96, 0] (nib w) slices_S128x128_o96_0_S32x128) (rowB s3)) (rowB z3)⟩]
    concatenates_S32x128_S32x128_S32x128_S32x128_S128x128_d0

/-! ## The tiles' programs -/

variable (R : Refs)

theorem inbK (t : ℕ) (ht : t < 63) : ∀ a, (![0, 0, 0, 128 * t] : Fin 4 → Nat) a + S1x1x64x128.size a ≤ S1x1x64x8064.size a :=
  fun | 0 => le_refl _ | 1 => le_refl _ | 2 => le_refl _ | 3 => by show 128 * t + 128 ≤ 8064; omega

theorem inbG (t : ℕ) (ht : t < 63) : ∀ a, (![0, 128 * (t / 8)] : Fin 2 → Nat) a + S128x128.size a ≤ S128x1024.size a :=
  fun | 0 => le_refl _ | 1 => by show 128 * (t / 8) + 128 ≤ 1024; omega

theorem inbV (g t : ℕ) (hg : g < 4) (ht : t < 63) : ∀ a, (![0, 0, g, 128 * t] : Fin 4 → Nat) a + S1x1x1x128.size a ≤ S1x1x4x8064.size a :=
  fun | 0 => le_refl _ | 1 => le_refl _ | 2 => by show g + 1 ≤ 4; omega | 3 => by show 128 * t + 128 ≤ 8064; omega

theorem inbS (c : ℕ) (hc : c < 31) : ∀ a, (![0, 256 * c] : Fin 2 → Nat) a + S8x256.size a ≤ S8x8192.size a :=
  fun | 0 => le_refl _ | 1 => by show 256 * c + 256 ≤ 8192; omega

theorem slicesP (c : ℕ) (hc : c < 31) : S8x8192.Slices ![0, 256 * c] S8x256 :=
  ⟨rfl, fun | 0 => le_refl _ | 1 => by show 256 * c + 256 ≤ 8192; omega⟩

/-- The places of tile `t` in the packed codes. -/
abbrev rK (t : ℕ) (ht : t < 63) := Rect.unit (s := S1x1x64x8064) ![0, 0, 0, 128 * t] S1x1x64x128.size (inbK t ht)
/-- The places of tile `t` in the transposed scales. -/
abbrev rG (t : ℕ) (ht : t < 63) := Rect.unit (s := S128x1024) ![0, 128 * (t / 8)] S128x128.size (inbG t ht)
/-- The places of group `g` of tile `t` in the values' scales. -/
abbrev rV (g t : ℕ) (hg : g < 4) (ht : t < 63) := Rect.unit (s := S1x1x4x8064) ![0, 0, g, 128 * t] S1x1x1x128.size (inbV g t hg ht)
/-- The places of chunk `c` in the scores. -/
abbrev rS (c : ℕ) (hc : c < 31) := Rect.unit (s := S8x8192) ![0, 256 * c] S8x256.size (inbS c hc)
/-- The places of the last tile in the scores. -/
abbrev rSl := Rect.unit (s := S8x8192) ![0, 7936] S8x128.size inb_S8x8192_S8x128_0_7936
/-- The places of the tail in the scores. -/
abbrev rSt := Rect.unit (s := S8x8192) ![0, 8064] S8x128.size inb_S8x8192_S8x128_0_8064
/-- The scratch columns the scales are written to. -/
abbrev rT := Rect.unit (s := S128x1024) ![0, 0] S128x1008.size inb_S128x1024_S128x1008_0_0

/-- Load tile `t` of the keys, dequantise it, and go on with it. -/
def kTile (k : BitVec 32) (t : ℕ) (ht : t < 63) (K : FVec F S128x128 .bf16 → P F) : P F :=
  .op (.load R.arg5 (rK t ht).toLoadRect (View.loadsAt_vmem h_S1x1x64x128)) fun w =>
  .op (.load R.arg16 (rG t ht).toLoadRect (View.loadsAt_vmem h_S128x128)) fun s =>
  .op (.load R.arg17 (rG t ht).toLoadRect (View.loadsAt_vmem h_S128x128)) fun z =>
  K (kVal t k w s z)

/-- The scores of two tiles of keys. -/
def scores2 (q : FVec F S8x128 .bf16) (a b : FVec F S128x128 .bf16) : FVec F S8x256 .f32 :=
  shapeCast S8x256 (matmul dot_S8x128_S128x256_S8x256_1_0_0_1_n_n none q
    (concatenate S128x256 1 [⟨S128x128, a⟩, ⟨S128x128, b⟩] concatenates_S128x128_S128x128_S128x256_d1)
    (constant S8x256 .f32 0x00000000#32)) shapeCasts_S8x256_S8x256

/-- Chunk `c` of the keys: the scores of two tiles, stored. -/
def kChunk (k : BitVec 32) (q : FVec F S8x128 .bf16) (c : ℕ) (hc : c < 31) (K : P F) : P F :=
  kTile R k (2 * c) (by omega) fun a => kTile R k (2 * c + 1) (by omega) fun b =>
  .op (.load R.arg18 (rS c hc).toLoadRect (View.loadsAt_vmem h_S8x256)) fun (_ : Vec F S8x256 .f32) =>
  .op (.store R.arg18 (rS c hc) (scores2 q a b) Finset.univ (View.stores_vmem_bits_univ h_S8x256 rfl) (.inl rfl)) fun _ => K

/-- The last `n` chunks of the keys. -/
def kLoop (k : BitVec 32) (q : FVec F S8x128 .bf16) : (n : ℕ) → n ≤ 31 → P F → P F
  | 0, _, K => K
  | n + 1, h, K => kChunk R k q (31 - (n + 1)) (by omega) (kLoop k q n (by omega) K)

/-- Load tile `t` of the values, dequantise it, and go on with it. -/
def vTile (t : ℕ) (ht : t < 63) (K : FVec F S128x128 .bf16 → P F) : P F :=
  .op (.load R.arg8 (rK t ht).toLoadRect (View.loadsAt_vmem h_S1x1x64x128)) fun w =>
  .op (.load R.arg9 (rV 0 t (by decide) ht).toLoadRect (View.loadsAt_vmem h_S1x1x1x128)) fun s0 =>
  .op (.load R.arg10 (rV 0 t (by decide) ht).toLoadRect (View.loadsAt_vmem h_S1x1x1x128)) fun z0 =>
  .op (.load R.arg9 (rV 1 t (by decide) ht).toLoadRect (View.loadsAt_vmem h_S1x1x1x128)) fun s1 =>
  .op (.load R.arg10 (rV 1 t (by decide) ht).toLoadRect (View.loadsAt_vmem h_S1x1x1x128)) fun z1 =>
  .op (.load R.arg9 (rV 2 t (by decide) ht).toLoadRect (View.loadsAt_vmem h_S1x1x1x128)) fun s2 =>
  .op (.load R.arg10 (rV 2 t (by decide) ht).toLoadRect (View.loadsAt_vmem h_S1x1x1x128)) fun z2 =>
  .op (.load R.arg9 (rV 3 t (by decide) ht).toLoadRect (View.loadsAt_vmem h_S1x1x1x128)) fun s3 =>
  .op (.load R.arg10 (rV 3 t (by decide) ht).toLoadRect (View.loadsAt_vmem h_S1x1x1x128)) fun z3 =>
  K (vVal w s0 z0 s1 z1 s2 z2 s3 z3)

/-- What a chunk of two tiles of values adds to the weighted sum. -/
def vAdd (c : ℕ) (hc : c < 31) (pb : FVec F S8x8192 .bf16) (a b : FVec F S128x128 .bf16) : FVec F S128x8 .f32 :=
  matmul dot_S128x256_S8x256_S128x8_1_1_0_0_n_n none
    (concatenate S128x256 1 [⟨S128x128, a⟩, ⟨S128x128, b⟩] concatenates_S128x128_S128x128_S128x256_d1)
    (extractStridedSlice S8x256 ![0, 256 * c] pb (slicesP c hc)) (constant S128x8 .f32 0x00000000#32)

/-- The last `n` chunks of the values, added to `acc`. -/
def vLoop (pb : FVec F S8x8192 .bf16) : (n : ℕ) → n ≤ 31 → FVec F S128x8 .f32 → (FVec F S128x8 .f32 → P F) → P F
  | 0, _, acc, K => K acc
  | n + 1, h, acc, K =>
    vTile R (2 * (31 - (n + 1))) (by omega) fun a => vTile R (2 * (31 - (n + 1)) + 1) (by omega) fun b =>
    vLoop pb n (by omega) (addf acc (vAdd (31 - (n + 1)) (by omega) pb a b)) K

/-! ## The rest of the body -/

/-- The queries of a point. -/
def qVal (x : Vec F S1x8x128 .f32) : FVec F S8x128 .bf16 := truncf .bf16 (shapeCast S8x128 x shapeCasts_S1x8x128_S8x128) bitsLt_bf16_f32

/-- A new row, rounded. -/
def rowVal (x : Vec F S1x1x128 .f32) : FVec F S1x128 .f32 :=
  extf .f32 (truncf .bf16 (shapeCast S1x128 x shapeCasts_S1x1x128_S1x128) bitsLt_bf16_f32) bitsLt_bf16_f32

/-- The scores of one tile of keys, stored as rows of positions. -/
def scores1 (q : FVec F S8x128 .bf16) (a : FVec F S128x128 .bf16) : FVec F S8x128 .f32 :=
  shapeCast S8x128 (matmul dot_S8x128_S128x128_S8x128_1_0_0_1_n_n none q a (constant S8x128 .f32 0x00000000#32)) shapeCasts_S8x128_S8x128

/-- The scores of the tail. -/
def scoresT (q : FVec F S8x128 .bf16) (kt : Vec F S1x1x128x128 .bf16) : FVec F S8x128 .f32 :=
  shapeCast S8x128 (matmul dot_S8x128_S128x128_S8x128_1_1_0_0_n_n none q
    (shapeCast S128x128 kt shapeCasts_S1x1x128x128_S128x128) (constant S8x128 .f32 0x00000000#32)) shapeCasts_S8x128_S8x128

/-- The score of the new position. -/
def sNew (q : FVec F S8x128 .bf16) (kn : Vec F S1x1x128 .f32) : FVec F S8x1 .f32 :=
  mulf (shapeCast S8x1 (multiReduction .add [1] S8 (mulf (extf .f32 q bitsLt_bf16_f32) (broadcastTo S8x128 (rowVal kn) broadcasts_S1x128_S8x128))
    0x00000000#32 reduces_S8x128_S8 (.inl rfl) rfl) shapeCasts_S8_S8x1) (broadcast S8x1 (Scalar.ofBits .f32 0x3DB504F3#32))

/-- The scaled scores. -/
def scaled (s : Vec F S8x8192 .f32) : FVec F S8x8192 .f32 := mulf s (broadcast S8x8192 (Scalar.ofBits .f32 0x3DB504F3#32))

/-- The largest score of each row. -/
def mVal (s : Vec F S8x8192 .f32) (sn : FVec F S8x1 .f32) : FVec F S8x1 .f32 :=
  maximumf (shapeCast S8x1 (multiReduction .maximumf [1] S8 (scaled s) 0xFF800000#32 reduces_S8x8192_S8 (.inl rfl) rfl) shapeCasts_S8_S8x1) sn

/-- The weights of the cached positions. -/
def pVal (s : Vec F S8x8192 .f32) (sn : FVec F S8x1 .f32) : FVec F S8x8192 .f32 :=
  exp (subf (scaled s) (broadcastTo S8x8192 (mVal s sn) broadcasts_S8x1_S8x8192))

/-- The weight of the new position. -/
def pNew (s : Vec F S8x8192 .f32) (sn : FVec F S8x1 .f32) : FVec F S8x1 .f32 := exp (subf sn (mVal s sn))

/-- The sum of the weights. -/
def lVal (s : Vec F S8x8192 .f32) (sn : FVec F S8x1 .f32) : FVec F S8x1 .f32 :=
  addf (shapeCast S8x1 (multiReduction .add [1] S8 (pVal s sn) 0x00000000#32 reduces_S8x8192_S8 (.inl rfl) rfl) shapeCasts_S8_S8x1) (pNew s sn)

/-- The rounded weights. -/
def pbVal (s : Vec F S8x8192 .f32) (sn : FVec F S8x1 .f32) : FVec F S8x8192 .bf16 := truncf .bf16 (pVal s sn) bitsLt_bf16_f32

/-- The weighted sum with the last tile's and the tail's values and the new one, divided by the weights' sum. -/
def yVal (s : Vec F S8x8192 .f32) (sn : FVec F S8x1 .f32) (vn : Vec F S1x1x128 .f32) (acc : FVec F S128x8 .f32)
    (a : FVec F S128x128 .bf16) (vt : Vec F S1x1x128x128 .bf16) : FVec F S1x8x128 .f32 :=
  shapeCast S1x8x128 (divf
    (addf
      (addf (transpose S8x128 [1, 0] (addf acc (matmul dot_S128x128_S8x128_S128x8_1_1_0_0_n_n none a
          (extractStridedSlice S8x128 ![0, 7936] (pbVal s sn) slices_S8x8192_o0_7936_S8x128) (constant S128x8 .f32 0x00000000#32)))
          transposes_S128x8_p1_0_S8x128)
        (matmul dot_S8x128_S128x128_S8x128_1_0_0_1_n_n none (extractStridedSlice S8x128 ![0, 8064] (pbVal s sn) slices_S8x8192_o0_8064_S8x128)
          (shapeCast S128x128 vt shapeCasts_S1x1x128x128_S128x128) (constant S8x128 .f32 0x00000000#32)))
      (mulf (broadcastTo S8x128 (extf .f32 (truncf .bf16 (pNew s sn) bitsLt_bf16_f32) bitsLt_bf16_f32) broadcasts_S8x1_S8x128)
        (broadcastTo S8x128 (rowVal vn) broadcasts_S1x128_S8x128)))
    (broadcastTo S8x128 (lVal s sn) broadcasts_S8x1_S8x128)) shapeCasts_S8x128_S1x8x128

/-- The values' half of the body, from the scores on. -/
def vPart (s : Vec F S8x8192 .f32) (sn : FVec F S8x1 .f32) (vn : Vec F S1x1x128 .f32) : P F :=
  vLoop R (pbVal s sn) 31 (le_refl _) (broadcast S128x8 (Scalar.ofBits .f32 0x00000000#32)) fun acc =>
  vTile R 62 (by decide) fun a =>
  .op (.load R.arg12 (Rect.unit (s := S1x1x128x128) ![0, 0, 0, 0] S1x1x128x128.size inb_S1x1x128x128_S1x1x128x128_0_0_0_0).toLoadRect (View.loadsAt_vmem h_S1x1x128x128)) fun vt =>
  .op (.load R.arg13 (Rect.unit (s := S1x8x128) ![0, 0, 0] S1x8x128.size inb_S1x8x128_S1x8x128_0_0_0).toLoadRect (View.loadsAt_vmem h_S1x8x128)) fun (_ : Vec F S1x8x128 .f32) =>
  .op (.store R.arg13 (Rect.unit (s := S1x8x128) ![0, 0, 0] S1x8x128.size inb_S1x8x128_S1x8x128_0_0_0) (yVal s sn vn acc a vt) Finset.univ (View.stores_vmem_bits_univ h_S1x8x128 rfl) (.inl rfl)) fun _ =>
  .ret ⟨⟩

/-- The body after its first-head part. -/
def main (i : grid0.Coords) : P F :=
  .op (.load R.arg2 (Rect.unit (s := S1x8x128) ![0, 0, 0] S1x8x128.size inb_S1x8x128_S1x8x128_0_0_0).toLoadRect (View.loadsAt_vmem h_S1x8x128)) fun x =>
  kLoop R (BitVec.ofNat 32 (i 1).val) (qVal x) 31 (le_refl _) <|
  kTile R (BitVec.ofNat 32 (i 1).val) 62 (by decide) fun a =>
  .op (.load R.arg18 rSl.toLoadRect (View.loadsAt_vmem h_S8x128)) fun (_ : Vec F S8x128 .f32) =>
  .op (.store R.arg18 rSl (scores1 (qVal x) a) Finset.univ (View.stores_vmem_bits_univ h_S8x128 rfl) (.inl rfl)) fun _ =>
  .op (.load R.arg11 (Rect.unit (s := S1x1x128x128) ![0, 0, 0, 0] S1x1x128x128.size inb_S1x1x128x128_S1x1x128x128_0_0_0_0).toLoadRect (View.loadsAt_vmem h_S1x1x128x128)) fun kt =>
  .op (.load R.arg18 rSt.toLoadRect (View.loadsAt_vmem h_S8x128)) fun (_ : Vec F S8x128 .f32) =>
  .op (.store R.arg18 rSt (scoresT (qVal x) kt) Finset.univ (View.stores_vmem_bits_univ h_S8x128 rfl) (.inl rfl)) fun _ =>
  .op (.load R.arg3 (Rect.unit (s := S1x4x128) (k0_off1 i) S1x1x128.size (k0_off1_inb i)).toLoadRect (View.loadsAt_vmem h_S1x1x128)) fun kn =>
  .op (.load R.arg4 (Rect.unit (s := S1x4x128) (k0_off1 i) S1x1x128.size (k0_off1_inb i)).toLoadRect (View.loadsAt_vmem h_S1x1x128)) fun vn =>
  .op (.load R.arg18 (Rect.unit (s := S8x8192) ![0, 0] S8x8192.size inb_S8x8192_S8x8192_0_0).toLoadRect (View.loadsAt_vmem h_S8x8192)) fun s =>
  vPart R s (sNew (qVal x) kn) vn

/-- The identity matrix. -/
def eye : FVec F S128x128 .bf16 :=
  truncf .bf16 (sitofp .f32 (extui 32 (cmpi .eq (iota .tc S128x128 32 [0] iota_S128x128_d0_w32) (iota .tc S128x128 32 [1] iota_S128x128_d1_w32)) natLt_1_32)) bitsLt_bf16_f32

/-- The scales of a batch, transposed. -/
def tVal (x : Vec F S1x1008x128 .bf16) : FVec F S128x1008 .bf16 :=
  shapeCast S128x1008 (truncf .bf16 (matmul dot_S128x128_S1008x128_S128x1008_1_1_0_0_n_n none eye
    (shapeCast S1008x128 x shapeCasts_S1x1008x128_S1008x128) (constant S128x1008 .f32 0x00000000#32)) bitsLt_bf16_f32) shapeCasts_S128x1008_S128x1008

/-- The new rows of a batch, rounded. -/
def newVal (x : Vec F S1x4x128 .f32) : FVec F S1x4x128 .bf16 :=
  shapeCast S1x4x128 (truncf .bf16 (shapeCast S4x128 x shapeCasts_S1x4x128_S4x128) bitsLt_bf16_f32) shapeCasts_S4x128_S1x4x128

/-- The first head's part: the scales transposed into the scratch, the new rows stored. -/
def head (K : P F) : P F :=
  .op (.load R.arg6 (Rect.unit (s := S1x1008x128) ![0, 0, 0] S1x1008x128.size inb_S1x1008x128_S1x1008x128_0_0_0).toLoadRect (View.loadsAt_vmem h_S1x1008x128)) fun s =>
  .op (.load R.arg16 rT.toLoadRect (View.loadsAt_vmem h_S128x1008)) fun (_ : Vec F S128x1008 .bf16) =>
  .op (.store R.arg16 rT (tVal s) Finset.univ (View.stores_vmem h_S128x1008 (R.harg16.storeExact_slice rfl _ packedbf16_S128x1024_S128x1008_0_0) (fun _ => rfl)) (.inl rfl)) fun _ =>
  .op (.load R.arg7 (Rect.unit (s := S1x1008x128) ![0, 0, 0] S1x1008x128.size inb_S1x1008x128_S1x1008x128_0_0_0).toLoadRect (View.loadsAt_vmem h_S1x1008x128)) fun z =>
  .op (.load R.arg17 rT.toLoadRect (View.loadsAt_vmem h_S128x1008)) fun (_ : Vec F S128x1008 .bf16) =>
  .op (.store R.arg17 rT (tVal z) Finset.univ (View.stores_vmem h_S128x1008 (R.harg17.storeExact_slice rfl _ packedbf16_S128x1024_S128x1008_0_0) (fun _ => rfl)) (.inl rfl)) fun _ =>
  .op (.load R.arg3 (Rect.unit (s := S1x4x128) ![0, 0, 0] S1x4x128.size inb_S1x4x128_S1x4x128_0_0_0).toLoadRect (View.loadsAt_vmem h_S1x4x128)) fun kn =>
  .op (.load R.arg14 (Rect.unit (s := S1x4x128) ![0, 0, 0] S1x4x128.size inb_S1x4x128_S1x4x128_0_0_0).toLoadRect (View.loadsAt_vmem h_S1x4x128)) fun (_ : Vec F S1x4x128 .bf16) =>
  .op (.store R.arg14 (Rect.unit (s := S1x4x128) ![0, 0, 0] S1x4x128.size inb_S1x4x128_S1x4x128_0_0_0) (newVal kn) Finset.univ (View.stores_vmem h_S1x4x128 (R.harg14.storeExact_slice rfl _ packedbf16_S1x4x128_S1x4x128_0_0_0) (fun _ => rfl)) (.inl rfl)) fun _ =>
  .op (.load R.arg4 (Rect.unit (s := S1x4x128) ![0, 0, 0] S1x4x128.size inb_S1x4x128_S1x4x128_0_0_0).toLoadRect (View.loadsAt_vmem h_S1x4x128)) fun vn =>
  .op (.load R.arg15 (Rect.unit (s := S1x4x128) ![0, 0, 0] S1x4x128.size inb_S1x4x128_S1x4x128_0_0_0).toLoadRect (View.loadsAt_vmem h_S1x4x128)) fun (_ : Vec F S1x4x128 .bf16) =>
  .op (.store R.arg15 (Rect.unit (s := S1x4x128) ![0, 0, 0] S1x4x128.size inb_S1x4x128_S1x4x128_0_0_0) (newVal vn) Finset.univ (View.stores_vmem h_S1x4x128 (R.harg15.storeExact_slice rfl _ packedbf16_S1x4x128_S1x4x128_0_0_0) (fun _ => rfl)) (.inl rfl)) fun _ =>
  K

end Cert.KernelIdeal.Body

end
-- ==== Proof.KernelIdeal.BodyEq.lean ====
/- The printed body is the program over tiles of `Body`: after its first-head part, one computation. -/
module

public import proofs.«01_k».proof.Proof.KernelIdeal.Body

@[expose] public section

noncomputable section

namespace Cert.KernelIdeal.Body

open Idealize.ShloMosaic Idealize.SL.Sem Cert.KernelIdeal
open Facts₀ Facts

variable {F : FTy → Type} [FloatOps F] (R : Refs)

/-! ## The printed body -/

/-- The printed body on the operands `R`. -/
abbrev printed (i : grid0.Coords) : P F :=
  cc0__attn_kernel i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18

set_option maxRecDepth 100000 in
set_option maxHeartbeats 0 in
/-- After the first-head part, the body is `main`. -/
theorem printed_B (i : grid0.Coords) (h : ¬ k0_cond1 i = 1#1) : printed (F := F) R i = main R i := by
  unfold printed cc0__attn_kernel k0_part172 k0_part2
  rw [dif_neg h]
  rfl

set_option maxRecDepth 100000 in
set_option maxHeartbeats 0 in
/-- At a batch's first head, the body is the first-head part and then `main`. -/
theorem printed_A (i : grid0.Coords) (h : k0_cond1 i = 1#1) : printed (F := F) R i = head R (main R i) := by
  unfold printed cc0__attn_kernel k0_part172 k0_part2
  rw [dif_pos h]
  rfl

end Cert.KernelIdeal.Body

end
-- ==== Proof.KernelIdeal.BodyWp.lean ====
/- Running the body over tiles: what a load and a store do to a buffer held whole, and, from them, what a tile, the loops
   over the tiles and the whole body do. The results are named as functions of what the buffers held. -/
module

public import proofs.«01_k».proof.Proof.Gen.KernelIdeal.Frame
public import proofs.«01_k».proof.Proof.KernelIdeal.BodyEq

@[expose] public section

set_option synthInstance.maxSize 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal
open Facts₀ Facts

variable {F : FTy → Type} [FloatOps F]

local notation "𝕄" => MT nD τ sig Unit (Elt F) ℕ (UR sig nD τ) ℕ

/-- What a whole buffer holds once `w` is stored on the places of `r`. -/
def upd {s : Shape} {e : EltTy} (X : s.Idx → Elt F e) (r : Rect s) (w : r.shape.Idx → Elt F e) : s.Idx → Elt F e :=
  open Classical in fun y => if h : ∃ x, r.emb x = y then w h.choose else X y

theorem upd_emb {s : Shape} {e : EltTy} (X : s.Idx → Elt F e) (r : Rect s) (w : r.shape.Idx → Elt F e) (x : r.shape.Idx) :
    upd X r w (r.emb x) = w x := by
  have h : ∃ x', r.emb x' = r.emb x := ⟨x, rfl⟩
  unfold upd
  rw [dif_pos h]
  exact congrArg w (r.emb.injective h.choose_spec)

theorem upd_of_ne {s : Shape} {e : EltTy} (X : s.Idx → Elt F e) (r : Rect s) (w : r.shape.Idx → Elt F e) (y : s.Idx)
    (h : ∀ x, r.emb x ≠ y) : upd X r w y = X y := by
  unfold upd
  rw [dif_neg (fun ⟨x, hx⟩ => h x hx)]

variable (c : Dev nD) {E : Set ℕ} {Q : PUnit.{1} → sProp (MT nD τ sig Unit (Elt F) ℕ (UR sig nD τ) ℕ)}

/-- A load from a buffer held at `X` continues with what `X` has on the rectangle. -/
theorem wp_ld {s : Shape} {e : EltTy} (m : Memref sig .tc .vmem s e) (r : Rect s) (hl : m.view.LoadsAt r.toLoadRect)
    (X : s.Idx → Elt F e) (k : (r.shape.Idx → Elt F e) → P F) :
    owns (c : Thread nD τ) m fullShare X
      ⊢ iprop((owns (c : Thread nD τ) m fullShare X -∗ wp frame (wpE (defs₀ (F := F)) Variants.none c none) E (k (fun x => X (r.emb x))) Q) -∗ wp frame (wpE (defs₀ (F := F)) Variants.none c none) E (.op (.load m r.toLoadRect hl) k) Q) := by
  unfold owns
  iintro ⟨%f, %hf, H⟩ Hk
  iapply (wp_load_rect (defs := defs₀ (F := F)) Variants.none (c : Thread nD τ) none E (Q := Q) (m := m) (r := r) (hl := hl) (k := k) (S := m.view.set)
    (q := fullShare) (f := f) (m.view.set_slice_subset r)) $$ H
  iintro H
  have e : (m.access r).read (Elt F) f = fun x => X (r.emb x) := by subst hf; rfl
  rw [e]
  iapply Hk
  iexists f
  isplitr
  · ipureintro; exact hf
  iexact H

/-- A store to a buffer held at `X` continues with the buffer at `X` updated on the rectangle. -/
theorem wp_st {s : Shape} {e : EltTy} (m : Memref sig .tc .vmem s e) (r : Rect s) (w : r.shape.Idx → Elt F e)
    (hx : (m.access r).Stores Finset.univ) (hm) (X : s.Idx → Elt F e) (k : PUnit → P F) :
    owns (c : Thread nD τ) m fullShare X
      ⊢ iprop((owns (c : Thread nD τ) m fullShare (upd X r w) -∗ wp frame (wpE (defs₀ (F := F)) Variants.none c none) E (k ⟨⟩) Q) -∗ wp frame (wpE (defs₀ (F := F)) Variants.none c none) E (.op (.store m r w Finset.univ hx hm) k) Q) := by
  unfold owns
  iintro ⟨%f, %hf, H⟩ Hk
  iapply (wp_store (defs := defs₀ (F := F)) Variants.none (c : Thread nD τ) none E (Q := Q) (m := m) (r := r) (w := w) (Mk := Finset.univ) (hx := hx) (hm := hm) (k := k)
    (S := m.view.set) (f := f) (m.setOn_access_subset r Finset.univ)) $$ H
  iintro H
  iapply Hk
  iexists _
  isplitr
  · ipureintro
    swap
    · exact (m.access r).write (Elt F) f w Finset.univ
    funext y
    by_cases hy : ∃ x, r.emb x = y
    · obtain ⟨x, rfl⟩ := hy
      rw [upd_emb]
      exact View.read_slice_write_emb (v := m.view) r f w (Finset.mem_univ x)
    · rw [upd_of_ne _ _ _ _ (fun x hx => hy ⟨x, hx⟩), ← hf]
      refine View.read_slice_write_of_not_mem (v := m.view) r f w _ ?_
      intro hmem
      obtain ⟨x, -, hx⟩ := Finset.mem_map.mp hmem
      exact hy ⟨x, hx⟩
  iexact H

variable (R : Refs)

/-- Tile `t` of the keys, dequantised, of packed codes `X` and transposed scales `U` and `Z`. -/
def kDeq (k : BitVec 32) (t : ℕ) (ht : t < 63) (X : Vec F S1x1x64x8064 .i8) (U Z : Vec F S128x1024 .bf16) : FVec F S128x128 .bf16 :=
  kVal t k (fun x => X ((rK t ht).emb x)) (fun x => U ((rG t ht).emb x)) (fun x => Z ((rG t ht).emb x))

/-- Tile `t` of the values, dequantised, of packed codes `X` and scales `S` and `Z`. -/
def vDeq (t : ℕ) (ht : t < 63) (X : Vec F S1x1x64x8064 .i8) (S Z : Vec F S1x1x4x8064 .bf16) : FVec F S128x128 .bf16 :=
  vVal (fun x => X ((rK t ht).emb x))
    (fun x => S ((rV 0 t (by decide) ht).emb x)) (fun x => Z ((rV 0 t (by decide) ht).emb x))
    (fun x => S ((rV 1 t (by decide) ht).emb x)) (fun x => Z ((rV 1 t (by decide) ht).emb x))
    (fun x => S ((rV 2 t (by decide) ht).emb x)) (fun x => Z ((rV 2 t (by decide) ht).emb x))
    (fun x => S ((rV 3 t (by decide) ht).emb x)) (fun x => Z ((rV 3 t (by decide) ht).emb x))

/-- A tile of keys runs to its continuation at the dequantised tile. -/
theorem wp_kTile (k : BitVec 32) (t : ℕ) (ht : t < 63) (X : Vec F S1x1x64x8064 .i8) (U Z : Vec F S128x1024 .bf16)
    (K : FVec F S128x128 .bf16 → P F) :
    iprop(owns (c : Thread nD τ) R.arg5 fullShare X ∗ owns (c : Thread nD τ) R.arg16 fullShare U ∗ owns (c : Thread nD τ) R.arg17 fullShare Z)
      ⊢ iprop((iprop(owns (c : Thread nD τ) R.arg5 fullShare X ∗ owns (c : Thread nD τ) R.arg16 fullShare U ∗ owns (c : Thread nD τ) R.arg17 fullShare Z)
          -∗ wp frame (wpE (defs₀ (F := F)) Variants.none c none) E (K (kDeq k t ht X U Z)) Q) -∗ wp frame (wpE (defs₀ (F := F)) Variants.none c none) E (kTile R k t ht K) Q) := by
  unfold kTile
  iintro ⟨H5, H16, H17⟩ Hk
  iapply (wp_ld c R.arg5 (rK t ht) _ X _) $$ H5
  iintro H5
  iapply (wp_ld c R.arg16 (rG t ht) _ U _) $$ H16
  iintro H16
  iapply (wp_ld c R.arg17 (rG t ht) _ Z _) $$ H17
  iintro H17
  iapply Hk
  isplitl [H5]
  · iexact H5
  isplitl [H16]
  · iexact H16
  iexact H17

/-- A tile of values runs to its continuation at the dequantised tile. -/
theorem wp_vTile (t : ℕ) (ht : t < 63) (X : Vec F S1x1x64x8064 .i8) (S Z : Vec F S1x1x4x8064 .bf16)
    (K : FVec F S128x128 .bf16 → P F) :
    iprop(owns (c : Thread nD τ) R.arg8 fullShare X ∗ owns (c : Thread nD τ) R.arg9 fullShare S ∗ owns (c : Thread nD τ) R.arg10 fullShare Z)
      ⊢ iprop((iprop(owns (c : Thread nD τ) R.arg8 fullShare X ∗ owns (c : Thread nD τ) R.arg9 fullShare S ∗ owns (c : Thread nD τ) R.arg10 fullShare Z)
          -∗ wp frame (wpE (defs₀ (F := F)) Variants.none c none) E (K (vDeq t ht X S Z)) Q) -∗ wp frame (wpE (defs₀ (F := F)) Variants.none c none) E (vTile R t ht K) Q) := by
  unfold vTile
  iintro ⟨H8, H9, H10⟩ Hk
  iapply (wp_ld c R.arg8 (rK t ht) _ X _) $$ H8
  iintro H8
  iapply (wp_ld c R.arg9 (rV 0 t _ ht) _ S _) $$ H9
  iintro H9
  iapply (wp_ld c R.arg10 (rV 0 t _ ht) _ Z _) $$ H10
  iintro H10
  iapply (wp_ld c R.arg9 (rV 1 t _ ht) _ S _) $$ H9
  iintro H9
  iapply (wp_ld c R.arg10 (rV 1 t _ ht) _ Z _) $$ H10
  iintro H10
  iapply (wp_ld c R.arg9 (rV 2 t _ ht) _ S _) $$ H9
  iintro H9
  iapply (wp_ld c R.arg10 (rV 2 t _ ht) _ Z _) $$ H10
  iintro H10
  iapply (wp_ld c R.arg9 (rV 3 t _ ht) _ S _) $$ H9
  iintro H9
  iapply (wp_ld c R.arg10 (rV 3 t _ ht) _ Z _) $$ H10
  iintro H10
  iapply Hk
  isplitl [H8]
  · iexact H8
  isplitl [H9]
  · iexact H9
  iexact H10

/-- The scores once the last `n` chunks are stored over `d`. -/
def sChunks (k : BitVec 32) (q : FVec F S8x128 .bf16) (X : Vec F S1x1x64x8064 .i8) (U Z : Vec F S128x1024 .bf16) :
    (n : ℕ) → n ≤ 31 → Vec F S8x8192 .f32 → Vec F S8x8192 .f32
  | 0, _, d => d
  | n + 1, h, d => sChunks k q X U Z n (by omega) (upd d (rS (31 - (n + 1)) (by omega))
      (scores2 q (kDeq k (2 * (31 - (n + 1))) (by omega) X U Z) (kDeq k (2 * (31 - (n + 1)) + 1) (by omega) X U Z)))

/-- The loop over the chunks of keys runs to its continuation with the scores stored. -/
theorem wp_kLoop (k : BitVec 32) (q : FVec F S8x128 .bf16) (X : Vec F S1x1x64x8064 .i8) (U Z : Vec F S128x1024 .bf16) (K : P F) :
    ∀ (n : ℕ) (h : n ≤ 31) (d : Vec F S8x8192 .f32),
    iprop(owns (c : Thread nD τ) R.arg5 fullShare X ∗ owns (c : Thread nD τ) R.arg16 fullShare U ∗ owns (c : Thread nD τ) R.arg17 fullShare Z
        ∗ owns (c : Thread nD τ) R.arg18 fullShare d)
      ⊢ iprop((iprop(owns (c : Thread nD τ) R.arg5 fullShare X ∗ owns (c : Thread nD τ) R.arg16 fullShare U ∗ owns (c : Thread nD τ) R.arg17 fullShare Z
          ∗ owns (c : Thread nD τ) R.arg18 fullShare (sChunks k q X U Z n h d))
          -∗ wp frame (wpE (defs₀ (F := F)) Variants.none c none) E K Q) -∗ wp frame (wpE (defs₀ (F := F)) Variants.none c none) E (kLoop R k q n h K) Q)
  | 0, h, d => by
    unfold kLoop sChunks
    iintro H Hk
    iapply Hk
    iexact H
  | n + 1, h, d => by
    unfold kLoop kChunk sChunks
    iintro ⟨H5, H16, H17, H18⟩ Hk
    iapply (wp_kTile c R k (2 * (31 - (n + 1))) _ X U Z _) $$ [H5 H16 H17]
    · isplitl [H5]
      · iexact H5
      isplitl [H16]
      · iexact H16
      iexact H17
    iintro ⟨H5, H16, H17⟩
    iapply (wp_kTile c R k (2 * (31 - (n + 1)) + 1) _ X U Z _) $$ [H5 H16 H17]
    · isplitl [H5]
      · iexact H5
      isplitl [H16]
      · iexact H16
      iexact H17
    iintro ⟨H5, H16, H17⟩
    iapply (wp_ld c R.arg18 (rS (31 - (n + 1)) _) _ d _) $$ H18
    iintro H18
    iapply (wp_st c R.arg18 (rS (31 - (n + 1)) _) _ _ _ d _) $$ H18
    iintro H18
    iapply (wp_kLoop k q X U Z K n _ _) $$ [H5 H16 H17 H18]
    · isplitl [H5]
      · iexact H5
      isplitl [H16]
      · iexact H16
      isplitl [H17]
      · iexact H17
      iexact H18
    iexact Hk

/-- The weighted sum with the last `n` chunks of values added to `acc`. -/
def accChunks (pb : FVec F S8x8192 .bf16) (X : Vec F S1x1x64x8064 .i8) (S Z : Vec F S1x1x4x8064 .bf16) :
    (n : ℕ) → n ≤ 31 → FVec F S128x8 .f32 → FVec F S128x8 .f32
  | 0, _, acc => acc
  | n + 1, h, acc => accChunks pb X S Z n (by omega) (addf acc (vAdd (31 - (n + 1)) (by omega) pb
      (vDeq (2 * (31 - (n + 1))) (by omega) X S Z) (vDeq (2 * (31 - (n + 1)) + 1) (by omega) X S Z)))

/-- The loop over the chunks of values runs to its continuation at the weighted sum. -/
theorem wp_vLoop (pb : FVec F S8x8192 .bf16) (X : Vec F S1x1x64x8064 .i8) (S Z : Vec F S1x1x4x8064 .bf16)
    (K : FVec F S128x8 .f32 → P F) :
    ∀ (n : ℕ) (h : n ≤ 31) (acc : FVec F S128x8 .f32),
    iprop(owns (c : Thread nD τ) R.arg8 fullShare X ∗ owns (c : Thread nD τ) R.arg9 fullShare S ∗ owns (c : Thread nD τ) R.arg10 fullShare Z)
      ⊢ iprop((iprop(owns (c : Thread nD τ) R.arg8 fullShare X ∗ owns (c : Thread nD τ) R.arg9 fullShare S ∗ owns (c : Thread nD τ) R.arg10 fullShare Z)
          -∗ wp frame (wpE (defs₀ (F := F)) Variants.none c none) E (K (accChunks pb X S Z n h acc)) Q) -∗ wp frame (wpE (defs₀ (F := F)) Variants.none c none) E (vLoop R pb n h acc K) Q)
  | 0, h, acc => by
    unfold vLoop accChunks
    iintro H Hk
    iapply Hk
    iexact H
  | n + 1, h, acc => by
    unfold vLoop accChunks
    iintro H Hk
    iapply (wp_vTile c R (2 * (31 - (n + 1))) _ X S Z _) $$ H
    iintro H
    iapply (wp_vTile c R (2 * (31 - (n + 1)) + 1) _ X S Z _) $$ H
    iintro H
    iapply (wp_vLoop pb X S Z K n _ _) $$ H
    iexact Hk

/-- The places of the new row of a point's head. -/
abbrev rN (i : grid0.Coords) := Rect.unit (s := S1x4x128) (k0_off1 i) S1x1x128.size (k0_off1_inb i)

/-- The queries of a point, from its block. -/
def qOf (x0 : Vec F S1x8x128 .f32) : FVec F S8x128 .bf16 := qVal (fun x => x0 ((Rect.unit (s := S1x8x128) ![0, 0, 0] S1x8x128.size inb_S1x8x128_S1x8x128_0_0_0).emb x))

/-- All the scores of a point, stored over `d`. -/
def sAll (k : BitVec 32) (q : FVec F S8x128 .bf16) (X : Vec F S1x1x64x8064 .i8) (U Z : Vec F S128x1024 .bf16) (kt : Vec F S1x1x128x128 .bf16)
    (d : Vec F S8x8192 .f32) : Vec F S8x8192 .f32 :=
  upd (upd (sChunks k q X U Z 31 (le_refl _) d) rSl (scores1 q (kDeq k 62 (by decide) X U Z))) rSt
    (scoresT q (fun x => kt ((Rect.unit (s := S1x1x128x128) ![0, 0, 0, 0] S1x1x128x128.size inb_S1x1x128x128_S1x1x128x128_0_0_0_0).emb x)))

/-- The result of a point from its scores. -/
def yOf (s : Vec F S8x8192 .f32) (sn : FVec F S8x1 .f32) (vn : Vec F S1x1x128 .f32) (x6 : Vec F S1x1x64x8064 .i8)
    (x7 x8 : Vec F S1x1x4x8064 .bf16) (vt : Vec F S1x1x128x128 .bf16) : FVec F S1x8x128 .f32 :=
  yVal s sn vn (accChunks (pbVal s sn) x6 x7 x8 31 (le_refl _) (broadcast S128x8 (Scalar.ofBits .f32 0x00000000#32)))
    (vDeq 62 (by decide) x6 x7 x8) (fun x => vt ((Rect.unit (s := S1x1x128x128) ![0, 0, 0, 0] S1x1x128x128.size inb_S1x1x128x128_S1x1x128x128_0_0_0_0).emb x))

/-- The result of a point, whatever the result's buffer held. -/
def yOut (i : grid0.Coords) (x0 : Vec F S1x8x128 .f32) (x1 x2 : Vec F S1x4x128 .f32) (x3 x6 : Vec F S1x1x64x8064 .i8)
    (x7 x8 : Vec F S1x1x4x8064 .bf16) (x9 x10 : Vec F S1x1x128x128 .bf16) (U Z : Vec F S128x1024 .bf16) (d : Vec F S8x8192 .f32) :
    FVec F S1x8x128 .f32 :=
  yOf (fun x => sAll (BitVec.ofNat 32 (i 1).val) (qOf x0) x3 U Z x9 d ((Rect.unit (s := S8x8192) ![0, 0] S8x8192.size inb_S8x8192_S8x8192_0_0).emb x))
    (sNew (qOf x0) (fun x => x1 ((rN i).emb x))) (fun x => x2 ((rN i).emb x)) x6 x7 x8 x10

/-- A rectangle of a whole shape is the whole shape: the place of `x` in it is `x`. -/
theorem emb_whole {s : Shape} (off : Fin s.rank → ℕ) (inb : ∀ a, off a + s.size a ≤ s.size a) (x : (Rect.unit (s := s) off s.size inb).shape.Idx) :
    (Rect.unit (s := s) off s.size inb).emb x = x := by
  funext a
  apply Fin.ext
  show off a + 1 * (x a).val = (x a).val
  have := inb a
  omega

/-- What a whole buffer holds once `w` is stored on all of it is `w`. -/
theorem upd_whole {s : Shape} {e : EltTy} (X : s.Idx → Elt F e) (off : Fin s.rank → ℕ) (inb : ∀ a, off a + s.size a ≤ s.size a)
    (w : s.Idx → Elt F e) : upd X (Rect.unit (s := s) off s.size inb) w = w := by
  funext y
  have := upd_emb X (Rect.unit (s := s) off s.size inb) w y
  rwa [emb_whole] at this

/-- The body after its first-head part: its inputs, the scratch scales and anything in the scores' and the result's
    buffers, it runs with the scores and the result in theirs. -/
theorem wp_main (i : grid0.Coords) (x0 : Vec F S1x8x128 .f32) (x1 x2 : Vec F S1x4x128 .f32) (x3 x6 : Vec F S1x1x64x8064 .i8)
    (x7 x8 : Vec F S1x1x4x8064 .bf16) (x9 x10 : Vec F S1x1x128x128 .bf16) (d13 : Vec F S1x8x128 .f32) (U Z : Vec F S128x1024 .bf16)
    (d : Vec F S8x8192 .f32) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yOut i x0 x1 x2 x3 x6 x7 x8 x9 x10 U Z d) ∗ owns (c : Thread nD τ) R.arg16 fullShare U ∗ owns (c : Thread nD τ) R.arg17 fullShare Z ∗ owns (c : Thread nD τ) R.arg18 fullShare (sAll (BitVec.ofNat 32 (i 1).val) (qOf x0) x3 U Z x9 d))
          -∗ Q ⟨⟩) -∗ wp frame (wpE (defs₀ (F := F)) Variants.none c none) E (main R i) Q) := by
  unfold main vPart
  iintro ⟨H2, H3, H4, H5, H8, H9, H10, H11, H12, H13, H16, H17, H18⟩ Hk
  iapply (wp_ld c R.arg2 (Rect.unit (s := S1x8x128) ![0, 0, 0] S1x8x128.size inb_S1x8x128_S1x8x128_0_0_0) _ x0 _) $$ H2
  iintro H2
  iapply (wp_kLoop c R (BitVec.ofNat 32 (i 1).val) (qOf x0) x3 U Z _ 31 (le_refl _) d) $$ [H5 H16 H17 H18]
  · isplitl [H5]
    · iexact H5
    isplitl [H16]
    · iexact H16
    isplitl [H17]
    · iexact H17
    iexact H18
  iintro ⟨H5, H16, H17, H18⟩
  iapply (wp_kTile c R (BitVec.ofNat 32 (i 1).val) 62 _ x3 U Z _) $$ [H5 H16 H17]
  · isplitl [H5]
    · iexact H5
    isplitl [H16]
    · iexact H16
    iexact H17
  iintro ⟨H5, H16, H17⟩
  iapply (wp_ld c R.arg18 rSl _ _ _) $$ H18
  iintro H18
  iapply (wp_st c R.arg18 rSl _ _ _ _ _) $$ H18
  iintro H18
  iapply (wp_ld c R.arg11 (Rect.unit (s := S1x1x128x128) ![0, 0, 0, 0] S1x1x128x128.size inb_S1x1x128x128_S1x1x128x128_0_0_0_0) _ x9 _) $$ H11
  iintro H11
  iapply (wp_ld c R.arg18 rSt _ _ _) $$ H18
  iintro H18
  iapply (wp_st c R.arg18 rSt _ _ _ _ _) $$ H18
  iintro H18
  iapply (wp_ld c R.arg3 (rN i) _ x1 _) $$ H3
  iintro H3
  iapply (wp_ld c R.arg4 (rN i) _ x2 _) $$ H4
  iintro H4
  iapply (wp_ld c R.arg18 (Rect.unit (s := S8x8192) ![0, 0] S8x8192.size inb_S8x8192_S8x8192_0_0) _ _ _) $$ H18
  iintro H18
  iapply (wp_vLoop c R _ x6 x7 x8 _ 31 (le_refl _) _) $$ [H8 H9 H10]
  · isplitl [H8]
    · iexact H8
    isplitl [H9]
    · iexact H9
    iexact H10
  iintro H
  iapply (wp_vTile c R 62 _ x6 x7 x8 _) $$ H
  iintro ⟨H8, H9, H10⟩
  iapply (wp_ld c R.arg12 (Rect.unit (s := S1x1x128x128) ![0, 0, 0, 0] S1x1x128x128.size inb_S1x1x128x128_S1x1x128x128_0_0_0_0) _ x10 _) $$ H12
  iintro H12
  iapply (wp_ld c R.arg13 (Rect.unit (s := S1x8x128) ![0, 0, 0] S1x8x128.size inb_S1x8x128_S1x8x128_0_0_0) _ d13 _) $$ H13
  iintro H13
  iapply (wp_st c R.arg13 (Rect.unit (s := S1x8x128) ![0, 0, 0] S1x8x128.size inb_S1x8x128_S1x8x128_0_0_0) _ _ _ d13 _) $$ H13
  rw [upd_whole]
  iintro H13
  sl_step
  iapply Hk
  isplitl [H2]
  · iexact H2
  isplitl [H3]
  · iexact H3
  isplitl [H4]
  · iexact H4
  isplitl [H5]
  · iexact H5
  isplitl [H8]
  · iexact H8
  isplitl [H9]
  · iexact H9
  isplitl [H10]
  · iexact H10
  isplitl [H11]
  · iexact H11
  isplitl [H12]
  · iexact H12
  isplitl [H13]
  · iexact H13
  isplitl [H16]
  · iexact H16
  isplitl [H17]
  · iexact H17
  iexact H18

/-- The first head's part: it runs to its continuation with the scales transposed into the scratch and the new rows stored. -/
theorem wp_head (K : P F) (x1 x2 : Vec F S1x4x128 .f32) (x4 x5 : Vec F S1x1008x128 .bf16) (d14 d15 : Vec F S1x4x128 .bf16)
    (U Z : Vec F S128x1024 .bf16) :
    iprop(owns (c : Thread nD τ) R.arg3 fullShare x1 ∗ owns (c : Thread nD τ) R.arg4 fullShare x2 ∗ owns (c : Thread nD τ) R.arg6 fullShare x4 ∗ owns (c : Thread nD τ) R.arg7 fullShare x5 ∗ owns (c : Thread nD τ) R.arg14 fullShare d14 ∗ owns (c : Thread nD τ) R.arg15 fullShare d15 ∗ owns (c : Thread nD τ) R.arg16 fullShare U ∗ owns (c : Thread nD τ) R.arg17 fullShare Z)
      ⊢ iprop((iprop(owns (c : Thread nD τ) R.arg3 fullShare x1 ∗ owns (c : Thread nD τ) R.arg4 fullShare x2 ∗ owns (c : Thread nD τ) R.arg6 fullShare x4 ∗ owns (c : Thread nD τ) R.arg7 fullShare x5 ∗ owns (c : Thread nD τ) R.arg14 fullShare (newVal x1) ∗ owns (c : Thread nD τ) R.arg15 fullShare (newVal x2) ∗ owns (c : Thread nD τ) R.arg16 fullShare (upd U rT (tVal x4)) ∗ owns (c : Thread nD τ) R.arg17 fullShare (upd Z rT (tVal x5)))
          -∗ wp frame (wpE (defs₀ (F := F)) Variants.none c none) E K Q) -∗ wp frame (wpE (defs₀ (F := F)) Variants.none c none) E (head R K) Q) := by
  unfold head
  iintro ⟨H3, H4, H6, H7, H14, H15, H16, H17⟩ Hk
  have e4 : (fun x => x4 ((Rect.unit (s := S1x1008x128) ![0, 0, 0] S1x1008x128.size inb_S1x1008x128_S1x1008x128_0_0_0).emb x)) = x4 := funext fun x => congrArg x4 (emb_whole _ _ x)
  have e5 : (fun x => x5 ((Rect.unit (s := S1x1008x128) ![0, 0, 0] S1x1008x128.size inb_S1x1008x128_S1x1008x128_0_0_0).emb x)) = x5 := funext fun x => congrArg x5 (emb_whole _ _ x)
  have e1 : (fun x => x1 ((Rect.unit (s := S1x4x128) ![0, 0, 0] S1x4x128.size inb_S1x4x128_S1x4x128_0_0_0).emb x)) = x1 := funext fun x => congrArg x1 (emb_whole _ _ x)
  have e2 : (fun x => x2 ((Rect.unit (s := S1x4x128) ![0, 0, 0] S1x4x128.size inb_S1x4x128_S1x4x128_0_0_0).emb x)) = x2 := funext fun x => congrArg x2 (emb_whole _ _ x)
  iapply (wp_ld c R.arg6 (Rect.unit (s := S1x1008x128) ![0, 0, 0] S1x1008x128.size inb_S1x1008x128_S1x1008x128_0_0_0) _ x4 _) $$ H6
  iintro H6
  rw [e4]
  iapply (wp_ld c R.arg16 rT _ U _) $$ H16
  iintro H16
  iapply (wp_st c R.arg16 rT _ _ _ U _) $$ H16
  iintro H16
  iapply (wp_ld c R.arg7 (Rect.unit (s := S1x1008x128) ![0, 0, 0] S1x1008x128.size inb_S1x1008x128_S1x1008x128_0_0_0) _ x5 _) $$ H7
  iintro H7
  rw [e5]
  iapply (wp_ld c R.arg17 rT _ Z _) $$ H17
  iintro H17
  iapply (wp_st c R.arg17 rT _ _ _ Z _) $$ H17
  iintro H17
  iapply (wp_ld c R.arg3 (Rect.unit (s := S1x4x128) ![0, 0, 0] S1x4x128.size inb_S1x4x128_S1x4x128_0_0_0) _ x1 _) $$ H3
  iintro H3
  rw [e1]
  iapply (wp_ld c R.arg14 (Rect.unit (s := S1x4x128) ![0, 0, 0] S1x4x128.size inb_S1x4x128_S1x4x128_0_0_0) _ d14 _) $$ H14
  iintro H14
  iapply (wp_st c R.arg14 (Rect.unit (s := S1x4x128) ![0, 0, 0] S1x4x128.size inb_S1x4x128_S1x4x128_0_0_0) _ _ _ d14 _) $$ H14
  rw [upd_whole]
  iintro H14
  iapply (wp_ld c R.arg4 (Rect.unit (s := S1x4x128) ![0, 0, 0] S1x4x128.size inb_S1x4x128_S1x4x128_0_0_0) _ x2 _) $$ H4
  iintro H4
  rw [e2]
  iapply (wp_ld c R.arg15 (Rect.unit (s := S1x4x128) ![0, 0, 0] S1x4x128.size inb_S1x4x128_S1x4x128_0_0_0) _ d15 _) $$ H15
  iintro H15
  iapply (wp_st c R.arg15 (Rect.unit (s := S1x4x128) ![0, 0, 0] S1x4x128.size inb_S1x4x128_S1x4x128_0_0_0) _ _ _ d15 _) $$ H15
  rw [upd_whole]
  iintro H15
  iapply Hk
  isplitl [H3]
  · iexact H3
  isplitl [H4]
  · iexact H4
  isplitl [H6]
  · iexact H6
  isplitl [H7]
  · iexact H7
  isplitl [H14]
  · iexact H14
  isplitl [H15]
  · iexact H15
  isplitl [H16]
  · iexact H16
  iexact H17

end Cert.KernelIdeal.Body

end
-- ==== Proof.KernelIdeal.Cols.lean ====
/- Which scratch columns the body reads, and that its result does not depend on what its buffers held before. -/
module

public import proofs.«01_k».proof.Proof.KernelIdeal.BodyWp
public import Idealize.ShloMosaic.Lib.ValueLayout

@[expose] public section

noncomputable section

namespace Cert.KernelIdeal.Body

open Idealize.ShloMosaic Idealize.ShloMosaic.ValueIdx Cert.KernelIdeal
open Facts₀ Facts

variable {F : FTy → Type} [FloatOps F]

theorem laneGrp_row (d d' l : Fin 128) : laneGrp (ix2 d l) = laneGrp (ix2 d' l) := rfl

set_option maxRecDepth 100000 in
/-- The quantisation group of lane `l` is `l / 32`. -/
theorem laneGrp_apply (d l : Fin 128) : laneGrp (ix2 d l) = BitVec.ofNat 32 (l.val / 32) := by
  rw [laneGrp_row d 0 l]
  revert l
  decide +kernel

/-- The scratch column of lane `l` of tile `t` for head `k`, within its slab of 128 columns. -/
theorem gcol_apply (t : ℕ) (k : ℕ) (hk : k < 4) (d l : Fin 128) :
    (gcol t (BitVec.ofNat 32 k) (ix2 d l)) = BitVec.ofNat 32 (4 * (l.val / 32) + 16 * (t % 8) + k) := by
  show (laneGrp (ix2 d l) * 4#32 + BitVec.ofNat 32 (16 * (t % 8))) + BitVec.ofNat 32 k = _
  rw [laneGrp_apply]
  apply BitVec.eq_of_toNat_eq
  have := l.isLt
  simp only [BitVec.toNat_add, BitVec.toNat_mul, BitVec.toNat_ofNat]
  omega

theorem gidx_apply (t : ℕ) (k : ℕ) (hk : k < 4) (d l : Fin 128) :
    (gidx t (BitVec.ofNat 32 k) (ix2 d l)).toNat = 4 * (l.val / 32) + 16 * (t % 8) + k := by
  have h1 := shapeCast_apply (shapeCast S128x128x1
    (select (cmpi .slt (gcol t (BitVec.ofNat 32 k)) (broadcast S128x128 0#32)) (addi (gcol t (BitVec.ofNat 32 k)) (broadcast S128x128 128#32)) (gcol t (BitVec.ofNat 32 k)))
    shapeCasts_S128x128_S128x128x1) shapeCasts_S128x128x1_S128x128 (ix2 d l) (ix3 d l (0 : Fin 1)) (by
      rw [Shape.rowMajor_val_three, Shape.rowMajor_val_two]
      show (d.val * 128 + l.val) * 1 + 0 = d.val * 128 + l.val
      omega)
  have h2 := shapeCast_apply
    (select (cmpi .slt (gcol t (BitVec.ofNat 32 k)) (broadcast S128x128 0#32)) (addi (gcol t (BitVec.ofNat 32 k)) (broadcast S128x128 128#32)) (gcol t (BitVec.ofNat 32 k)))
    shapeCasts_S128x128_S128x128x1 (ix3 d l (0 : Fin 1)) (ix2 d l) (by
      rw [Shape.rowMajor_val_three, Shape.rowMajor_val_two]
      show d.val * 128 + l.val = (d.val * 128 + l.val) * 1 + 0
      omega)
  have hl := l.isLt
  have h3 : BitVec.slt (BitVec.ofNat 32 (4 * (l.val / 32) + 16 * (t % 8) + k)) 0#32 = false := by
    rw [BitVec.slt_eq_decide, decide_eq_false_iff_not, BitVec.toInt_eq_toNat_of_lt (by rw [BitVec.toNat_ofNat]; omega)]
    show ¬ ((_ : ℕ) : Int) < 0
    omega
  unfold gidx
  rw [h1, h2]
  show (Scalar.select (BitVec.ofBool (BitVec.slt (gcol t (BitVec.ofNat 32 k) (ix2 d l)) 0#32)) (gcol t (BitVec.ofNat 32 k) (ix2 d l) + 128#32) (gcol t (BitVec.ofNat 32 k) (ix2 d l))).toNat = _
  rw [gcol_apply t k hk, h3]
  show (BitVec.ofNat 32 (4 * (l.val / 32) + 16 * (t % 8) + k)).toNat = _
  rw [BitVec.toNat_ofNat]
  omega

/-- The scratch column of lane `l` of tile `t` for head `k`: that of quantisation group `4 t + l / 32`. -/
def col (t : ℕ) (ht : t < 63) (k : Fin 4) (l : Fin 128) : Fin 1008 := ⟨4 * (4 * t + l.val / 32) + k.val, by have := l.isLt; have := k.isLt; omega⟩

/-- The scales spread over the lanes of a tile: lane `l` has its group's column. -/
theorem spread_apply (t : ℕ) (ht : t < 63) (k : Fin 4) (U : Vec F S128x1024 .bf16) (d l : Fin 128) :
    spread t (BitVec.ofNat 32 k.val) (fun x => U ((rG t ht).emb x)) (ix2 d l)
      = FloatOps.truncf .bf16 bitsLt_bf16_f32 (FloatOps.extf .f32 bitsLt_bf16_f32
          (U (ix2 d ⟨(col t ht k l).val, by have := (col t ht k l).isLt; omega⟩))) := by
  show FloatOps.truncf .bf16 bitsLt_bf16_f32 (FloatOps.extf .f32 bitsLt_bf16_f32 (U _)) = _
  congr 3
  funext a
  apply Fin.ext
  match a with
  | ⟨0, _⟩ => exact (Nat.zero_add _).trans (Nat.one_mul _)
  | ⟨1, _⟩ =>
    show 128 * (t / 8) + 1 * ((gidx t (BitVec.ofNat 32 k.val) (ix2 d l)).toNat % 128) = 4 * (4 * t + l.val / 32) + k.val
    rw [gidx_apply t k.val k.isLt]
    have := l.isLt
    have := k.isLt
    omega

/-- Two scratch contents that agree on the columns the scales are written to. -/
def Agree (U U' : Vec F S128x1024 .bf16) : Prop := ∀ (d : Fin 128) (j : Fin 1008),
  U (ix2 d ⟨j.val, by have := j.isLt; omega⟩) = U' (ix2 d ⟨j.val, by have := j.isLt; omega⟩)

/-- An index of a matrix is its two coordinates. -/
theorem ix2_eta {a b : ℕ} (j : (⟨2, ![a, b]⟩ : Shape).Idx) : ∃ (x : Fin a) (y : Fin b), j = ix2 x y :=
  ⟨j 0, j 1, funext fun | ⟨0, _⟩ => rfl | ⟨1, _⟩ => rfl⟩

/-- A dequantised tile depends on the scratch only through the columns the scales are written to. -/
theorem kDeq_congr (k : Fin 4) (t : ℕ) (ht : t < 63) (X : Vec F S1x1x64x8064 .i8) (U U' Z Z' : Vec F S128x1024 .bf16)
    (hU : Agree U U') (hZ : Agree Z Z') :
    kDeq (BitVec.ofNat 32 k.val) t ht X U Z = kDeq (BitVec.ofNat 32 k.val) t ht X U' Z' := by
  have key : ∀ V V' : Vec F S128x1024 .bf16, Agree V V' →
      spread t (BitVec.ofNat 32 k.val) (fun x => V ((rG t ht).emb x)) = spread t (BitVec.ofNat 32 k.val) (fun x => V' ((rG t ht).emb x)) := by
    intro V V' h
    funext j
    obtain ⟨d, l, rfl⟩ := ix2_eta j
    rw [spread_apply t ht k V d l, spread_apply t ht k V' d l, h d (col t ht k l)]
  unfold kDeq kVal
  rw [key U U' hU, key Z Z' hZ]

/-! ## The scores, place by place -/

section Scores

variable (k : BitVec 32) (q : FVec F S8x128 .bf16) (X : Vec F S1x1x64x8064 .i8) (U Z : Vec F S128x1024 .bf16)

theorem emb_rS (c : ℕ) (hc : c < 31) (r : Fin 8) (j : Fin 256) :
    (rS c hc).emb (ix2 r j) = ix2 r ⟨256 * c + j.val, by have := j.isLt; omega⟩ :=
  funext fun
    | ⟨0, _⟩ => Fin.ext ((Nat.zero_add _).trans (Nat.one_mul _))
    | ⟨1, _⟩ => Fin.ext (congrArg (256 * c + ·) (Nat.one_mul _))

theorem emb_rSl (r : Fin 8) (j : Fin 128) : rSl.emb (ix2 r j) = ix2 r ⟨7936 + j.val, by have := j.isLt; omega⟩ :=
  funext fun
    | ⟨0, _⟩ => Fin.ext ((Nat.zero_add _).trans (Nat.one_mul _))
    | ⟨1, _⟩ => Fin.ext (congrArg (7936 + ·) (Nat.one_mul _))

theorem emb_rSt (r : Fin 8) (j : Fin 128) : rSt.emb (ix2 r j) = ix2 r ⟨8064 + j.val, by have := j.isLt; omega⟩ :=
  funext fun
    | ⟨0, _⟩ => Fin.ext ((Nat.zero_add _).trans (Nat.one_mul _))
    | ⟨1, _⟩ => Fin.ext (congrArg (8064 + ·) (Nat.one_mul _))

theorem ix2_snd_ne {a b : ℕ} {x x' : Fin a} {y y' : Fin b} (h : y.val ≠ y'.val) : (ix2 x y : (⟨2, ![a, b]⟩ : Shape).Idx) ≠ ix2 x' y' :=
  fun e => h (congrArg Fin.val (congrFun e 1))

/-- The chunks leave the places before them alone. -/
theorem sChunks_below : ∀ (n : ℕ) (h : n ≤ 31) (d : Vec F S8x8192 .f32) (r : Fin 8) (p : Fin 8192), p.val < 256 * (31 - n) →
    sChunks k q X U Z n h d (ix2 r p) = d (ix2 r p)
  | 0, h, d, r, p, hp => rfl
  | n + 1, h, d, r, p, hp => by
    unfold sChunks
    rw [sChunks_below n _ _ r p (by omega)]
    apply upd_of_ne
    intro x
    obtain ⟨a, b, rfl⟩ := ix2_eta x
    rw [emb_rS]
    exact ix2_snd_ne (by show 256 * (31 - (n + 1)) + b.val ≠ p.val; omega)

/-- The last chunks leave the places after them alone. -/
theorem sChunks_above : ∀ (n : ℕ) (h : n ≤ 31) (d : Vec F S8x8192 .f32) (r : Fin 8) (p : Fin 8192), 7936 ≤ p.val →
    sChunks k q X U Z n h d (ix2 r p) = d (ix2 r p)
  | 0, h, d, r, p, hp => rfl
  | n + 1, h, d, r, p, hp => by
    unfold sChunks
    rw [sChunks_above n _ _ r p (by omega)]
    apply upd_of_ne
    intro x
    obtain ⟨a, b, rfl⟩ := ix2_eta x
    rw [emb_rS]
    have hb : b.val < 256 := b.isLt
    exact ix2_snd_ne (by show 256 * (31 - (n + 1)) + b.val ≠ p.val; omega)

/-- A chunk's places hold its scores. -/
theorem sChunks_apply : ∀ (n : ℕ) (h : n ≤ 31) (d : Vec F S8x8192 .f32) (c : ℕ) (hc : c < 31) (hn : 31 - n ≤ c) (r : Fin 8) (j : Fin 256),
    sChunks k q X U Z n h d (ix2 r ⟨256 * c + j.val, by have := j.isLt; omega⟩)
      = scores2 q (kDeq k (2 * c) (by omega) X U Z) (kDeq k (2 * c + 1) (by omega) X U Z) (ix2 r j)
  | 0, h, d, c, hc, hn, r, j => absurd hc (by omega)
  | n + 1, h, d, c, hc, hn, r, j => by
    unfold sChunks
    by_cases e : c = 31 - (n + 1)
    · subst e
      have hj := j.isLt
      rw [sChunks_below k q X U Z n _ _ r _ (by show 256 * (31 - (n + 1)) + j.val < 256 * (31 - n); omega), ← emb_rS _ hc, upd_emb]
    · exact sChunks_apply n _ _ c hc (by omega) r j

variable (kt : Vec F S1x1x128x128 .bf16) (d : Vec F S8x8192 .f32)

/-- The score at place `256 c + j`: chunk `c`'s. -/
theorem sAll_chunk (c : ℕ) (hc : c < 31) (r : Fin 8) (j : Fin 256) :
    sAll k q X U Z kt d (ix2 r ⟨256 * c + j.val, by have := j.isLt; omega⟩)
      = scores2 q (kDeq k (2 * c) (by omega) X U Z) (kDeq k (2 * c + 1) (by omega) X U Z) (ix2 r j) := by
  have hj := j.isLt
  unfold sAll
  rw [upd_of_ne, upd_of_ne, sChunks_apply k q X U Z 31 _ d c hc (by omega) r j]
  · intro x
    obtain ⟨a, b, rfl⟩ := ix2_eta x
    rw [emb_rSl]
    exact ix2_snd_ne (by show 7936 + b.val ≠ 256 * c + j.val; omega)
  · intro x
    obtain ⟨a, b, rfl⟩ := ix2_eta x
    rw [emb_rSt]
    exact ix2_snd_ne (by show 8064 + b.val ≠ 256 * c + j.val; omega)

/-- The score at place `7936 + j`: the last tile's. -/
theorem sAll_last (r : Fin 8) (j : Fin 128) :
    sAll k q X U Z kt d (ix2 r ⟨7936 + j.val, by have := j.isLt; omega⟩) = scores1 q (kDeq k 62 (by decide) X U Z) (ix2 r j) := by
  have hj := j.isLt
  unfold sAll
  rw [upd_of_ne, ← emb_rSl, upd_emb]
  intro x
  obtain ⟨a, b, rfl⟩ := ix2_eta x
  rw [emb_rSt]
  exact ix2_snd_ne (by show 8064 + b.val ≠ 7936 + j.val; omega)

/-- The score at place `8064 + j`: the tail's. -/
theorem sAll_tail (r : Fin 8) (j : Fin 128) :
    sAll k q X U Z kt d (ix2 r ⟨8064 + j.val, by have := j.isLt; omega⟩) = scoresT q kt (ix2 r j) := by
  unfold sAll
  rw [← emb_rSt, upd_emb]
  exact congrArg (fun f => scoresT q f (ix2 r j)) (funext fun x => congrArg kt (emb_whole (s := S1x1x128x128) _ _ x))

end Scores

/-- The scores depend on the scratch only through the columns the scales are written to, and not on what their
    buffer held. -/
theorem sAll_congr (k : Fin 4) (q : FVec F S8x128 .bf16) (X : Vec F S1x1x64x8064 .i8) (U U' Z Z' : Vec F S128x1024 .bf16)
    (hU : Agree U U') (hZ : Agree Z Z') (kt : Vec F S1x1x128x128 .bf16) (d d' : Vec F S8x8192 .f32) :
    sAll (BitVec.ofNat 32 k.val) q X U Z kt d = sAll (BitVec.ofNat 32 k.val) q X U' Z' kt d' := by
  funext y
  obtain ⟨r, ⟨p, hp⟩, rfl⟩ := ix2_eta y
  by_cases h1 : p < 7936
  · have e : p = 256 * (p / 256) + p % 256 := by omega
    have hc : p / 256 < 31 := by omega
    have a1 := sAll_chunk (BitVec.ofNat 32 k.val) q X U Z kt d (p / 256) hc r ⟨p % 256, by omega⟩
    have a2 := sAll_chunk (BitVec.ofNat 32 k.val) q X U' Z' kt d' (p / 256) hc r ⟨p % 256, by omega⟩
    simp only [← e] at a1 a2
    rw [a1, a2, kDeq_congr k _ _ X U U' Z Z' hU hZ, kDeq_congr k _ _ X U U' Z Z' hU hZ]
  by_cases h2 : p < 8064
  · have e : 7936 + (p - 7936) = p := by omega
    have a1 := sAll_last (BitVec.ofNat 32 k.val) q X U Z kt d r ⟨p - 7936, by omega⟩
    have a2 := sAll_last (BitVec.ofNat 32 k.val) q X U' Z' kt d' r ⟨p - 7936, by omega⟩
    simp only [e] at a1 a2
    rw [a1, a2, kDeq_congr k _ _ X U U' Z Z' hU hZ]
  · have e : 8064 + (p - 8064) = p := by omega
    have a1 := sAll_tail (BitVec.ofNat 32 k.val) q X U Z kt d r ⟨p - 8064, by omega⟩
    have a2 := sAll_tail (BitVec.ofNat 32 k.val) q X U' Z' kt d' r ⟨p - 8064, by omega⟩
    simp only [e] at a1 a2
    rw [a1, a2]

/-- Scratch contents holding the transposed scales `x`, on the columns they are written to. -/
def Holds (U : Vec F S128x1024 .bf16) (x : Vec F S1x1008x128 .bf16) : Prop := ∀ (d : Fin 128) (j : Fin 1008),
  U (ix2 d ⟨j.val, by have := j.isLt; omega⟩) = tVal x (ix2 d j)

theorem emb_rT (d : Fin 128) (j : Fin 1008) : rT.emb (ix2 d j) = ix2 d ⟨j.val, by have := j.isLt; omega⟩ :=
  funext fun
    | ⟨0, _⟩ => Fin.ext ((Nat.zero_add _).trans (Nat.one_mul _))
    | ⟨1, _⟩ => Fin.ext ((Nat.zero_add _).trans (Nat.one_mul _))

theorem holds_upd (U : Vec F S128x1024 .bf16) (x : Vec F S1x1008x128 .bf16) : Holds (upd U rT (tVal x)) x := fun d j => by
  rw [← emb_rT, upd_emb]

/-- Some contents holding the transposed scales `x`. -/
def scr (x : Vec F S1x1008x128 .bf16) : Vec F S128x1024 .bf16 := upd (fun _ => FloatOps.ofBits .bf16 0x0000#16) rT (tVal x)

/-- The result of a point: of its blocks only. -/
def yT (i : grid0.Coords) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16) :
    FVec F S1x8x128 .f32 :=
  yOut i x0 x1 x2 x3 x6 x7 x8 x9 x10 (scr x4) (scr x5) (fun _ => FloatOps.ofBits .f32 0x00000000#32)

/-- With the transposed scales in the scratch, the body's result is that of its blocks. -/
theorem yOut_eq (i : grid0.Coords) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (U Z : Vec F S128x1024 .bf16) (d : Vec F S8x8192 .f32) (hU : Holds U x4) (hZ : Holds Z x5) :
    yOut i x0 x1 x2 x3 x6 x7 x8 x9 x10 U Z d = yT i x0 x1 x2 x3 x4 x5 x6 x7 x8 x9 x10 := by
  unfold yT yOut
  rw [sAll_congr (i 1) (qOf x0) x3 U (scr x4) Z (scr x5) (fun a j => (hU a j).trans (holds_upd _ x4 a j).symm)
    (fun a j => (hZ a j).trans (holds_upd _ x5 a j).symm) x9 d (fun _ => FloatOps.ofBits .f32 0x00000000#32)]

end Cert.KernelIdeal.Body

end
-- ==== Proof.KernelIdeal.Run.lean ====
/- The body at a point of the grid, from its blocks to its results, and the run of the whole kernel: it ends, leaves its
   arguments alone, and its result arrays hold what the points wrote back. -/
module

public import proofs.«01_k».proof.Proof.KernelIdeal.Blocks
public import proofs.«01_k».proof.Proof.KernelIdeal.Cols
public import Idealize.ShloMosaic.Lib.Pipeline.TableIdle
public import Idealize.ShloMosaic.Lib.Claim

@[expose] public section

set_option synthInstance.maxSize 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body over its operands -/

section Runs

variable (c : Dev nD) {E : Set ℕ} {Q : PUnit.{1} → sProp (MT nD τ sig Unit (Elt F) ℕ (UR sig nD τ) ℕ)} (R : Refs) (i : grid0.Coords)

/-- The body at a batch's first head: from its blocks, whatever its results' and scratch buffers hold, it runs with the
    result of the point, the new rows rounded and the scales transposed in them. -/
theorem run_A (hc : k0_cond1 i = 1#1) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (d13 : Vec F S1x8x128 .f32) (d14 d15 : Vec F S1x4x128 .bf16) (U Z : Vec F S128x1024 .bf16) (d : Vec F S8x8192 .f32) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg14 fullShare d14 ∗ owns (c : Thread nD τ) R.arg15 fullShare d15 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yT i x0 x1 x2 x3 x4 x5 x6 x7 x8 x9 x10) ∗ owns (c : Thread nD τ) R.arg14 fullShare (newVal x1) ∗ owns (c : Thread nD τ) R.arg15 fullShare (newVal x2) ∗ owns (c : Thread nD τ) R.arg16 fullShare (upd U rT (tVal x4)) ∗ owns (c : Thread nD τ) R.arg17 fullShare (upd Z rT (tVal x5)) ∗ (∃ d', owns (c : Thread nD τ) R.arg18 fullShare d'))
          -∗ Q ⟨⟩) -∗ wp frame (wpE (defs₀ (F := F)) Variants.none c none) E (printed R i) Q) := by
  rw [printed_A R i hc]
  iintro ⟨H2, H3, H4, H5, H6, H7, H8, H9, H10, H11, H12, H13, H14, H15, H16, H17, H18⟩ Hk
  iapply (wp_head c R (main R i) x1 x2 x4 x5 d14 d15 U Z) $$ [H3 H4 H6 H7 H14 H15 H16 H17]
  · isplitl [H3]
    · iexact H3
    isplitl [H4]
    · iexact H4
    isplitl [H6]
    · iexact H6
    isplitl [H7]
    · iexact H7
    isplitl [H14]
    · iexact H14
    isplitl [H15]
    · iexact H15
    isplitl [H16]
    · iexact H16
    iexact H17
  iintro ⟨H3, H4, H6, H7, H14, H15, H16, H17⟩
  iapply (wp_main c R i x0 x1 x2 x3 x6 x7 x8 x9 x10 d13 (upd U rT (tVal x4)) (upd Z rT (tVal x5)) d) $$ [H2 H3 H4 H5 H8 H9 H10 H11 H12 H13 H16 H17 H18]
  · isplitl [H2]
    · iexact H2
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    isplitl [H16]
    · iexact H16
    isplitl [H17]
    · iexact H17
    iexact H18
  rw [yOut_eq i x0 x1 x2 x3 x4 x5 x6 x7 x8 x9 x10 _ _ d (holds_upd U x4) (holds_upd Z x5)]
  iintro ⟨H2, H3, H4, H5, H8, H9, H10, H11, H12, H13, H16, H17, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  iexists _
  iexact H18

/-- The body at a batch's other heads: with the batch's scales transposed in the scratch it runs with the result of the
    point in the result's buffer, the rest as it was. -/
theorem run_B (hc : ¬ k0_cond1 i = 1#1) (x0 : Vec F S1x8x128 .f32) (x1 x2 : Vec F S1x4x128 .f32) (x3 : Vec F S1x1x64x8064 .i8)
    (x4 x5 : Vec F S1x1008x128 .bf16) (x6 : Vec F S1x1x64x8064 .i8) (x7 x8 : Vec F S1x1x4x8064 .bf16) (x9 x10 : Vec F S1x1x128x128 .bf16)
    (d13 : Vec F S1x8x128 .f32) (d14 d15 : Vec F S1x4x128 .bf16) (U Z : Vec F S128x1024 .bf16) (d : Vec F S8x8192 .f32) (hU : Holds U x4) (hZ : Holds Z x5) :
    iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare d13 ∗ owns (c : Thread nD τ) R.arg14 fullShare d14 ∗ owns (c : Thread nD τ) R.arg15 fullShare d15 ∗ owns (c : Thread nD τ) R.arg16 fullShare U ∗ owns (c : Thread nD τ) R.arg17 fullShare Z ∗ owns (c : Thread nD τ) R.arg18 fullShare d)
      ⊢ iprop((iprop(owns (c : Thread nD τ) R.arg2 fullShare x0 ∗ owns (c : Thread nD τ) R.arg3 fullShare x1 ∗ owns (c : Thread nD τ) R.arg4 fullShare x2 ∗ owns (c : Thread nD τ) R.arg5 fullShare x3 ∗ owns (c : Thread nD τ) R.arg6 fullShare x4 ∗ owns (c : Thread nD τ) R.arg7 fullShare x5 ∗ owns (c : Thread nD τ) R.arg8 fullShare x6 ∗ owns (c : Thread nD τ) R.arg9 fullShare x7 ∗ owns (c : Thread nD τ) R.arg10 fullShare x8 ∗ owns (c : Thread nD τ) R.arg11 fullShare x9 ∗ owns (c : Thread nD τ) R.arg12 fullShare x10 ∗ owns (c : Thread nD τ) R.arg13 fullShare (yT i x0 x1 x2 x3 x4 x5 x6 x7 x8 x9 x10) ∗ owns (c : Thread nD τ) R.arg14 fullShare d14 ∗ owns (c : Thread nD τ) R.arg15 fullShare d15 ∗ owns (c : Thread nD τ) R.arg16 fullShare U ∗ owns (c : Thread nD τ) R.arg17 fullShare Z ∗ (∃ d', owns (c : Thread nD τ) R.arg18 fullShare d'))
          -∗ Q ⟨⟩) -∗ wp frame (wpE (defs₀ (F := F)) Variants.none c none) E (printed R i) Q) := by
  rw [printed_B R i hc]
  iintro ⟨H2, H3, H4, H5, H6, H7, H8, H9, H10, H11, H12, H13, H14, H15, H16, H17, H18⟩ Hk
  iapply (wp_main c R i x0 x1 x2 x3 x6 x7 x8 x9 x10 d13 U Z d) $$ [H2 H3 H4 H5 H8 H9 H10 H11 H12 H13 H16 H17 H18]
  · isplitl [H2]
    · iexact H2
    isplitl [H3]
    · iexact H3
    isplitl [H4]
    · iexact H4
    isplitl [H5]
    · iexact H5
    isplitl [H8]
    · iexact H8
    isplitl [H9]
    · iexact H9
    isplitl [H10]
    · iexact H10
    isplitl [H11]
    · iexact H11
    isplitl [H12]
    · iexact H12
    isplitl [H13]
    · iexact H13
    isplitl [H16]
    · iexact H16
    isplitl [H17]
    · iexact H17
    iexact H18
  rw [yOut_eq i x0 x1 x2 x3 x4 x5 x6 x7 x8 x9 x10 _ _ d hU hZ]
  iintro ⟨H2, H3, H4, H5, H8, H9, H10, H11, H12, H13, H16, H17, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  iexists _
  iexact H18

end Runs

variable (m : (ℓ : Loc nD τ sig) → Buf (Elt F) ℓ) (ρ : Dev nD → PrngReg)

/-! ## The points -/

/-- The operands of the body at a point. -/
def refsAt (t : Fin cfg0.N) : Refs where
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)
  arg8 := win0_6.stage (cfg0.slots t 6)
  harg8 := hstage0_6 ((cfg0.slots t 6).cast nbuf0_6)
  arg9 := win0_7.stage (cfg0.slots t 7)
  harg9 := hstage0_7 ((cfg0.slots t 7).cast nbuf0_7)
  arg10 := win0_8.stage (cfg0.slots t 8)
  harg10 := hstage0_8 ((cfg0.slots t 8).cast nbuf0_8)
  arg11 := win0_9.stage (cfg0.slots t 9)
  harg11 := hstage0_9 ((cfg0.slots t 9).cast nbuf0_9)
  arg12 := win0_10.stage (cfg0.slots t 10)
  harg12 := hstage0_10 ((cfg0.slots t 10).cast nbuf0_10)
  arg13 := win0_11.stage (cfg0.slots t 11)
  harg13 := hstage0_11 ((cfg0.slots t 11).cast nbuf0_11)
  arg14 := win0_12.stage (cfg0.slots t 12)
  harg14 := hstage0_12 ((cfg0.slots t 12).cast nbuf0_12)
  arg15 := win0_13.stage (cfg0.slots t 13)
  harg15 := hstage0_13 ((cfg0.slots t 13).cast nbuf0_13)
  arg16 := Memref.whole cc0_scratch0
  harg16 := Memref.isWhole_whole _
  arg17 := Memref.whole cc0_scratch1
  harg17 := Memref.isWhole_whole _
  arg18 := Memref.whole cc0_scratch2
  harg18 := Memref.isWhole_whole _

/-- A point is its batch's first head exactly if it is a multiple of four. -/
theorem first_iff (t : Fin cfg0.N) : k0_cond1 (grid0.coords t) = 1#1 ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [k0_cond1, e0, e1]
  word_cmp

/-- The result of a point. -/
def yAt (c : Dev nD) (t : Fin cfg0.N) : FVec F S1x8x128 .f32 :=
  yT (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the scratch holds between points: before the first point anything; afterwards the point before's scales,
    transposed. -/
def scratch (c : Dev nD) (n : ℕ) : sProp 𝕄 :=
  iprop((∃ U Z, ⌜∀ h : n - 1 < cfg0.N, n ≠ 0 → Holds U (iblk m c 4 ⟨n - 1, h⟩) ∧ Holds Z (iblk m c 5 ⟨n - 1, h⟩)⌝
      ∗ owns (c : Thread nD τ) (Memref.whole cc0_scratch0) fullShare U ∗ owns (c : Thread nD τ) (Memref.whole cc0_scratch1) fullShare Z
      ∗ (∃ d, owns (c : Thread nD τ) (Memref.whole cc0_scratch2) fullShare d)) ∗ (∃ r, prngReg c r))

/-- The pipeline's proof data: each input's buffer at its block, each result's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => newVal (iblk m c 1 t)
    | ⟨13, _⟩ => newVal (iblk m c 2 t)
  Φ t := scratch m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = yAt m c t := by dsimp only [dats]
theorem after12 (c : Dev nD) (t : Fin cfg0.N) : (dats m 0 c).after 12 t = newVal (iblk m c 1 t) := by dsimp only [dats]
theorem after13 (c : Dev nD) (t : Fin cfg0.N) : (dats m 0 c).after 13 t = newVal (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem idle12 (t : Fin cfg0.N) : cfg0.idle 12 (cfg0.grid.coords t) = !decide (t.val % 4 = 0) := by
  show (!(k0_cond1 (grid0.coords t) == 1#1)) = _
  by_cases h : t.val % 4 = 0
  · rw [(first_iff t).mpr h]; simp [h]
  · have h' : k0_cond1 (grid0.coords t) ≠ 1#1 := fun e => h ((first_iff t).mp e)
    simp [h, h']

/-- The buffer of result 12 is fresh at a batch's first head only. -/
theorem fresh12 : ∀ (n : ℕ) (hn : n < cfg0.N), cfg0.fresh 12 n = decide (n % 4 = 0)
  | 0, _ => rfl
  | n + 1, hn => by
    have hn' : n < cfg0.N := by omega
    rw [Cfg.fresh_succ cfg0 12 n hn', idle12 ⟨n, hn'⟩, fresh12 n hn']
    have hf := flush0_12 ⟨n, hn'⟩
    cases hb : (cfg0.win 12).flush ⟨n, hn'⟩
    · have h3 : n % 4 ≠ 3 := fun e => Bool.false_ne_true (hb.symm.trans (hf.mpr e))
      have h4 : ¬ (n + 1) % 4 = 0 := by omega
      by_cases h0 : n % 4 = 0 <;> simp [h0, h4]
    · have h3 : n % 4 = 3 := hf.mp hb
      have h4 : (n + 1) % 4 = 0 := by omega
      simp [h4]

/-- At a batch's other heads the buffer of result 12 holds what the first left. -/
theorem before12 (c : Dev nD) (t : Fin cfg0.N) (h0 : ¬ t.val % 4 = 0) (d) : (dats m 0 c).before 12 t d = newVal (iblk m c 1 t) := by
  have hb : ∀ t : Fin cfg0.N, ¬ t.val % 4 = 0 → ∀ h, (dats m 0 c).after 12 ⟨t.val - 1, h⟩ = (dats m 0 c).after 12 t := by
    intro t h0 h
    rw [after12, after12, iblk1_bat m c ⟨t.val - 1, h⟩ t (Fin.ext (by show (t.val - 1) / 4 = t.val / 4; omega))]
  rw [(dats m 0 c).before_out_traj 12 rfl (fun _ _ => rfl) (fun t ht hi hf => (hb t (by
      rw [fresh12 t.val t.isLt] at hf; exact of_decide_eq_false hf) _).symm) t.val t rfl d,
    fresh12 t.val t.isLt, decide_eq_false h0, if_neg Bool.false_ne_true, hb t h0, after12]

theorem idle13 (t : Fin cfg0.N) : cfg0.idle 13 (cfg0.grid.coords t) = !decide (t.val % 4 = 0) := by
  show (!(k0_cond1 (grid0.coords t) == 1#1)) = _
  by_cases h : t.val % 4 = 0
  · rw [(first_iff t).mpr h]; simp [h]
  · have h' : k0_cond1 (grid0.coords t) ≠ 1#1 := fun e => h ((first_iff t).mp e)
    simp [h, h']

/-- The buffer of result 13 is fresh at a batch's first head only. -/
theorem fresh13 : ∀ (n : ℕ) (hn : n < cfg0.N), cfg0.fresh 13 n = decide (n % 4 = 0)
  | 0, _ => rfl
  | n + 1, hn => by
    have hn' : n < cfg0.N := by omega
    rw [Cfg.fresh_succ cfg0 13 n hn', idle13 ⟨n, hn'⟩, fresh13 n hn']
    have hf := flush0_13 ⟨n, hn'⟩
    cases hb : (cfg0.win 13).flush ⟨n, hn'⟩
    · have h3 : n % 4 ≠ 3 := fun e => Bool.false_ne_true (hb.symm.trans (hf.mpr e))
      have h4 : ¬ (n + 1) % 4 = 0 := by omega
      by_cases h0 : n % 4 = 0 <;> simp [h0, h4]
    · have h3 : n % 4 = 3 := hf.mp hb
      have h4 : (n + 1) % 4 = 0 := by omega
      simp [h4]

/-- At a batch's other heads the buffer of result 13 holds what the first left. -/
theorem before13 (c : Dev nD) (t : Fin cfg0.N) (h0 : ¬ t.val % 4 = 0) (d) : (dats m 0 c).before 13 t d = newVal (iblk m c 2 t) := by
  have hb : ∀ t : Fin cfg0.N, ¬ t.val % 4 = 0 → ∀ h, (dats m 0 c).after 13 ⟨t.val - 1, h⟩ = (dats m 0 c).after 13 t := by
    intro t h0 h
    rw [after13, after13, iblk2_bat m c ⟨t.val - 1, h⟩ t (Fin.ext (by show (t.val - 1) / 4 = t.val / 4; omega))]
  rw [(dats m 0 c).before_out_traj 13 rfl (fun _ _ => rfl) (fun t ht hi hf => (hb t (by
      rw [fresh13 t.val t.isLt] at hf; exact of_decide_eq_false hf) _).symm) t.val t rfl d,
    fresh13 t.val t.isLt, decide_eq_false h0, if_neg Bool.false_ne_true, hb t h0, after13]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (refsAt t).arg2 fullShare ((dats m 0 c).before 0 t d))
    ∗ (∃ d, owns (c : Thread nD τ) (refsAt t).arg3 fullShare ((dats m 0 c).before 1 t d))
    ∗ (∃ d, owns (c : Thread nD τ) (refsAt t).arg4 fullShare ((dats m 0 c).before 2 t d))
    ∗ (∃ d, owns (c : Thread nD τ) (refsAt t).arg5 fullShare ((dats m 0 c).before 3 t d))
    ∗ (∃ d, owns (c : Thread nD τ) (refsAt t).arg6 fullShare ((dats m 0 c).before 4 t d))
    ∗ (∃ d, owns (c : Thread nD τ) (refsAt t).arg7 fullShare ((dats m 0 c).before 5 t d))
    ∗ (∃ d, owns (c : Thread nD τ) (refsAt t).arg8 fullShare ((dats m 0 c).before 6 t d))
    ∗ (∃ d, owns (c : Thread nD τ) (refsAt t).arg9 fullShare ((dats m 0 c).before 7 t d))
    ∗ (∃ d, owns (c : Thread nD τ) (refsAt t).arg10 fullShare ((dats m 0 c).before 8 t d))
    ∗ (∃ d, owns (c : Thread nD τ) (refsAt t).arg11 fullShare ((dats m 0 c).before 9 t d))
    ∗ (∃ d, owns (c : Thread nD τ) (refsAt t).arg12 fullShare ((dats m 0 c).before 10 t d))
    ∗ (∃ d, owns (c : Thread nD τ) (refsAt t).arg13 fullShare ((dats m 0 c).before 11 t d))
    ∗ (∃ d, owns (c : Thread nD τ) (refsAt t).arg14 fullShare ((dats m 0 c).before 12 t d))
    ∗ (∃ d, owns (c : Thread nD τ) (refsAt t).arg15 fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0 (c : Dev nD) (t : Fin cfg0.N) :
    (dats m 0 c).leavesExact 0 t = owns (c : Thread nD τ) (refsAt t).arg2 fullShare (iblk m c 0 t) := by
  unfold Dat.leavesExact; rw [show cfg0.idle 0 (cfg0.grid.coords t) = false from rfl, after0]; rfl
theorem leaves1 (c : Dev nD) (t : Fin cfg0.N) :
    (dats m 0 c).leavesExact 1 t = owns (c : Thread nD τ) (refsAt t).arg3 fullShare (iblk m c 1 t) := by
  unfold Dat.leavesExact; rw [show cfg0.idle 1 (cfg0.grid.coords t) = false from rfl, after1]; rfl
theorem leaves2 (c : Dev nD) (t : Fin cfg0.N) :
    (dats m 0 c).leavesExact 2 t = owns (c : Thread nD τ) (refsAt t).arg4 fullShare (iblk m c 2 t) := by
  unfold Dat.leavesExact; rw [show cfg0.idle 2 (cfg0.grid.coords t) = false from rfl, after2]; rfl
theorem leaves3 (c : Dev nD) (t : Fin cfg0.N) :
    (dats m 0 c).leavesExact 3 t = owns (c : Thread nD τ) (refsAt t).arg5 fullShare (iblk m c 3 t) := by
  unfold Dat.leavesExact; rw [show cfg0.idle 3 (cfg0.grid.coords t) = false from rfl, after3]; rfl
theorem leaves4 (c : Dev nD) (t : Fin cfg0.N) :
    (dats m 0 c).leavesExact 4 t = owns (c : Thread nD τ) (refsAt t).arg6 fullShare (iblk m c 4 t) := by
  unfold Dat.leavesExact; rw [show cfg0.idle 4 (cfg0.grid.coords t) = false from rfl, after4]; rfl
theorem leaves5 (c : Dev nD) (t : Fin cfg0.N) :
    (dats m 0 c).leavesExact 5 t = owns (c : Thread nD τ) (refsAt t).arg7 fullShare (iblk m c 5 t) := by
  unfold Dat.leavesExact; rw [show cfg0.idle 5 (cfg0.grid.coords t) = false from rfl, after5]; rfl
theorem leaves6 (c : Dev nD) (t : Fin cfg0.N) :
    (dats m 0 c).leavesExact 6 t = owns (c : Thread nD τ) (refsAt t).arg8 fullShare (iblk m c 6 t) := by
  unfold Dat.leavesExact; rw [show cfg0.idle 6 (cfg0.grid.coords t) = false from rfl, after6]; rfl
theorem leaves7 (c : Dev nD) (t : Fin cfg0.N) :
    (dats m 0 c).leavesExact 7 t = owns (c : Thread nD τ) (refsAt t).arg9 fullShare (iblk m c 7 t) := by
  unfold Dat.leavesExact; rw [show cfg0.idle 7 (cfg0.grid.coords t) = false from rfl, after7]; rfl
theorem leaves8 (c : Dev nD) (t : Fin cfg0.N) :
    (dats m 0 c).leavesExact 8 t = owns (c : Thread nD τ) (refsAt t).arg10 fullShare (iblk m c 8 t) := by
  unfold Dat.leavesExact; rw [show cfg0.idle 8 (cfg0.grid.coords t) = false from rfl, after8]; rfl
theorem leaves9 (c : Dev nD) (t : Fin cfg0.N) :
    (dats m 0 c).leavesExact 9 t = owns (c : Thread nD τ) (refsAt t).arg11 fullShare (iblk m c 9 t) := by
  unfold Dat.leavesExact; rw [show cfg0.idle 9 (cfg0.grid.coords t) = false from rfl, after9]; rfl
theorem leaves10 (c : Dev nD) (t : Fin cfg0.N) :
    (dats m 0 c).leavesExact 10 t = owns (c : Thread nD τ) (refsAt t).arg12 fullShare (iblk m c 10 t) := by
  unfold Dat.leavesExact; rw [show cfg0.idle 10 (cfg0.grid.coords t) = false from rfl, after10]; rfl
theorem leaves11 (c : Dev nD) (t : Fin cfg0.N) :
    (dats m 0 c).leavesExact 11 t = owns (c : Thread nD τ) (refsAt t).arg13 fullShare (yAt m c t) := by
  unfold Dat.leavesExact; rw [show cfg0.idle 11 (cfg0.grid.coords t) = false from rfl, after11]; rfl
theorem leaves12_A (c : Dev nD) (t : Fin cfg0.N) (h0 : t.val % 4 = 0) :
    (dats m 0 c).leavesExact 12 t = owns (c : Thread nD τ) (refsAt t).arg14 fullShare (newVal (iblk m c 1 t)) := by
  unfold Dat.leavesExact; rw [idle12, decide_eq_true h0, after12]; rfl
theorem leaves12_B (c : Dev nD) (t : Fin cfg0.N) (h0 : ¬ t.val % 4 = 0) :
    owns (c : Thread nD τ) (refsAt t).arg14 fullShare (newVal (iblk m c 1 t)) ⊢ (dats m 0 c).leavesExact 12 t := by
  unfold Dat.leavesExact
  rw [idle12, decide_eq_false h0, Bool.not_false]
  cases hf : (cfg0.win 12).flush t
  · iintro H
    iexists (fun _ => Classical.arbitrary _)
    rw [before12 m c t h0]
    iexact H
  · rw [after12]
    exact Idealize.SL.BI.Entails.refl _
theorem leaves13_A (c : Dev nD) (t : Fin cfg0.N) (h0 : t.val % 4 = 0) :
    (dats m 0 c).leavesExact 13 t = owns (c : Thread nD τ) (refsAt t).arg15 fullShare (newVal (iblk m c 2 t)) := by
  unfold Dat.leavesExact; rw [idle13, decide_eq_true h0, after13]; rfl
theorem leaves13_B (c : Dev nD) (t : Fin cfg0.N) (h0 : ¬ t.val % 4 = 0) :
    owns (c : Thread nD τ) (refsAt t).arg15 fullShare (newVal (iblk m c 2 t)) ⊢ (dats m 0 c).leavesExact 13 t := by
  unfold Dat.leavesExact
  rw [idle13, decide_eq_false h0, Bool.not_false]
  cases hf : (cfg0.win 13).flush t
  · iintro H
    iexists (fun _ => Classical.arbitrary _)
    rw [before13 m c t h0]
    iexact H
  · rw [after13]
    exact Idealize.SL.BI.Entails.refl _

/-- The body at any point. -/
theorem sound_body (c : Dev nD) (t : Fin cfg0.N) :
    bodyPre m c t ⊢ wp frame (wpE (defs₀ (F := F)) Variants.none c none) Set.univ (printed (refsAt t) (grid0.coords t)) (fun _ => bodyPost m c t) := by
  unfold bodyPre bodyPost
  simp only [before0, before1, before2, before3, before4, before5, before6, before7, before8, before9, before10]
  rw [show (dats m 0 c).owesAt () t.succ = (dats m 0 c).owesAt () t.castSucc from rfl]
  rw [show (dats m 0 c).Φ t.succ = scratch m c (t.val + 1) from rfl, show (dats m 0 c).Φ t.castSucc = scratch m c t.val from rfl]
  rw [leaves0, leaves1, leaves2, leaves3, leaves4, leaves5, leaves6, leaves7, leaves8, leaves9, leaves10, leaves11]
  unfold scratch yAt
  by_cases h0 : t.val % 4 = 0
  · rw [leaves12_A m c t h0, leaves13_A m c t h0]
    iintro ⟨⟨⟨%U, %Z, %hUZ, H16, H17, ⟨%d, H18⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_A c (refsAt t) (grid0.coords t) ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ U Z d) $$ [H2 H3 H4 H5 H6 H7 H8 H9 H10 H11 H12 H13 H14 H15 H16 H17 H18]
    · isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    iintro ⟨H2, H3, H4, H5, H6, H7, H8, H9, H10, H11, H12, H13, H14, H15, H16, H17, H18⟩
    isplitl [H16 H17 H18 Hg]
    · isplitl [H16 H17 H18]
      · iexists _
        iexists _
        isplitr
        swap
        · isplitl [H16]
          · iexact H16
          isplitl [H17]
          · iexact H17
          iexact H18
        · ipureintro
          intro h hn
          exact ⟨holds_upd _ _, holds_upd _ _⟩
      iexact Hg
    isplitl [Ho]
    · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    iexact H15
  · have hlt := t.isLt
    have hb : bat ⟨t.val - 1, by omega⟩ = bat t := Fin.ext (by show (t.val - 1) / 4 = t.val / 4; omega)
    simp only [before12 m c t h0, before13 m c t h0]
    iintro ⟨⟨⟨%U, %Z, %hUZ, H16, H17, ⟨%d, H18⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain ⟨hU, hZ⟩ := hUZ (by omega) (by omega)
    rw [iblk4_bat m c ⟨t.val - 1, by omega⟩ t hb] at hU
    rw [iblk5_bat m c ⟨t.val - 1, by omega⟩ t hb] at hZ
    iapply (run_B c (refsAt t) (grid0.coords t) (fun e => h0 ((first_iff t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ U Z d hU hZ) $$ [H2 H3 H4 H5 H6 H7 H8 H9 H10 H11 H12 H13 H14 H15 H16 H17 H18]
    · isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    iintro ⟨H2, H3, H4, H5, H6, H7, H8, H9, H10, H11, H12, H13, H14, H15, H16, H17, H18⟩
    isplitl [H16 H17 H18 Hg]
    · isplitl [H16 H17 H18]
      · iexists _
        iexists _
        isplitr
        swap
        · isplitl [H16]
          · iexact H16
          isplitl [H17]
          · iexact H17
          iexact H18
        · ipureintro
          intro h hn
          exact ⟨hU, hZ⟩
      iexact Hg
    isplitl [Ho]
    · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iapply (leaves12_B m c t h0)
      iexact H14
    iapply (leaves13_B m c t h0)
    iexact H15

theorem defs₀_row (t : Fin cfg0.N) :
    defs₀ (F := F) .tc cfg0.body (cfg0.bodyArgs t (cfg0.slots t)) = printed (refsAt t) (grid0.coords t) := by
  unfold defs₀; rw [Defs.onTc_tc]; rfl

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch between points as the launch hands it over and takes it back. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = scratch m c 0 from rfl, scratch_eq]
  unfold scratch
  iintro ⟨⟨⟨%U, H16⟩, ⟨%Z, H17⟩, H18⟩, Hg⟩
  isplitl [H16 H17 H18]
  · iexists U
    iexists Z
    isplitr
    · ipureintro
      exact fun _ h => absurd rfl h
    isplitl [H16]
    · iexact H16
    isplitl [H17]
    · iexact H17
    iexact H18
  iexact Hg

theorem hout (c : Dev nD) : (dats m 0 c).Φ (Fin.last cfg0.N) ⊢ Pipeline.ΦA spec0 c := by
  rw [show (dats m 0 c).Φ (Fin.last cfg0.N) = scratch m c cfg0.N from rfl, scratch_eq]
  unfold scratch
  iintro ⟨⟨%U, %Z, -, H16, H17, H18⟩, Hg⟩
  isplitl [H16 H17 H18]
  · isplitl [H16]
    · iexists _; iexact H16
    isplitl [H17]
    · iexists _; iexact H17
    iexact H18
  iexact Hg

-- the implicit arguments are found by unifying the conclusion with this one
set_option backward.isDefEq.respectTransparency.types false in
set_option maxHeartbeats 800000 in
/-- The run: every execution ends with the windows' arrays as the points left them, the other buffers as the host lines
    leave them, and every counter at zero. -/
theorem run_main : θ_run defs (onTc (τ := τ) (Cert.KernelIdeal.main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ Cert.KernelIdeal.main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run leaves the arguments as they were, and every counter at zero. -/
theorem frame : θ_run defs (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.Attn.Spec.lean ====
/- The attention of one key head over its cache, in plain mathematics over the extended reals: what both programs compute. -/
module

public import Idealize.ShloMosaic.Lib.ValueLayout
public import Idealize.ShloMosaic.PureOps.Ideal.Laws

@[expose] public section

noncomputable section

namespace Cert.Attn

open Idealize.ShloMosaic
open scoped BigOperators

/-- A 4-bit code of a byte: its low half (`par = 0`) or its high half. -/
def nibble (w : BitVec 8) (par : ℕ) : BitVec 32 := if par = 0 then w.setWidth 32 &&& 15#32 else w.setWidth 32 >>> 4

/-- That code as a number. -/
def code (w : BitVec 8) (par : ℕ) : EReal := FloatOps.sitofp (F := Ideal) .bf16 (nibble w par)

/-- One key head's queries, new rows, packed cache with its scales and zeros, and unpacked tail. -/
structure Head where
  q : Fin 8 → Fin 128 → EReal
  kn : Fin 128 → EReal
  vn : Fin 128 → EReal
  kc : Fin 8064 → Fin 64 → BitVec 8
  ks : Fin 252 → Fin 128 → EReal
  kz : Fin 252 → Fin 128 → EReal
  vc : Fin 8064 → Fin 64 → BitVec 8
  vs : Fin 8064 → Fin 4 → EReal
  vz : Fin 8064 → Fin 4 → EReal
  kt : Fin 128 → Fin 128 → EReal
  vt : Fin 128 → Fin 128 → EReal

namespace Head

variable (H : Head)

/-- A key of the packed cache: its code times its scale plus its zero; the scales are shared by 32 positions. -/
def keyC (p : Fin 8064) (d : Fin 128) : EReal :=
  code (H.kc p ⟨d.val / 2, by omega⟩) (d.val % 2) * H.ks ⟨p.val / 32, by omega⟩ d + H.kz ⟨p.val / 32, by omega⟩ d

/-- A value of the packed cache: the scales are shared by 32 lanes. -/
def valC (p : Fin 8064) (d : Fin 128) : EReal :=
  code (H.vc p ⟨d.val / 2, by omega⟩) (d.val % 2) * H.vs p ⟨d.val / 32, by omega⟩ + H.vz p ⟨d.val / 32, by omega⟩

/-- The key at a position: of the packed cache, of the tail, or the new one. -/
def key (p : ℕ) (d : Fin 128) : EReal :=
  if h : p < 8064 then H.keyC ⟨p, h⟩ d else if h' : p - 8064 < 128 then H.kt ⟨p - 8064, h'⟩ d else H.kn d

/-- The value at a position. -/
def val (p : ℕ) (d : Fin 128) : EReal :=
  if h : p < 8064 then H.valC ⟨p, h⟩ d else if h' : p - 8064 < 128 then H.vt ⟨p - 8064, h'⟩ d else H.vn d

/-- The score of a query row at a position. -/
def score (g : Fin 8) (p : ℕ) : EReal := ∑ d : Fin 128, H.q g d * H.key p d

/-- The scaled score. -/
def scaled (g : Fin 8) (p : ℕ) : EReal := H.score g p * Ideal.ofBits .f32 0x3DB504F3#32

/-- The largest scaled score of a row. -/
def top (g : Fin 8) : EReal := (Finset.univ : Finset (Fin 8193)).fold max (Ideal.ofBits .f32 0xFF800000#32) fun p => H.scaled g p.val

/-- The weight of a position. -/
def weight (g : Fin 8) (p : ℕ) : EReal := Ideal.exp (H.scaled g p - H.top g)

/-- The sum of a row's weights. -/
def den (g : Fin 8) : EReal := ∑ p : Fin 8193, H.weight g p.val

/-- A row's weighted sum of the values. -/
def num (g : Fin 8) (d : Fin 128) : EReal := ∑ p : Fin 8193, H.weight g p.val * H.val p.val d

/-- The attention's result. -/
def out (g : Fin 8) (d : Fin 128) : EReal := Ideal.div (H.num g d) (H.den g)

end Head

open Idealize.ShloMosaic.ValueIdx in
/-- The head `h` of batch `b` of the problem's arguments. -/
def headOf (x0 : (⟨3, ![16, 1, 4096]⟩ : Shape).Idx → EReal) (x1 x2 : (⟨4, ![16, 1, 4, 128]⟩ : Shape).Idx → EReal)
    (x3 : (⟨4, ![16, 4, 8064, 64]⟩ : Shape).Idx → BitVec 8) (x4 x5 : (⟨4, ![16, 4, 252, 128]⟩ : Shape).Idx → EReal)
    (x6 : (⟨4, ![16, 4, 8064, 64]⟩ : Shape).Idx → BitVec 8) (x7 x8 : (⟨4, ![16, 4, 8064, 4]⟩ : Shape).Idx → EReal)
    (x9 x10 : (⟨4, ![16, 4, 128, 128]⟩ : Shape).Idx → EReal) (b : Fin 16) (h : Fin 4) : Head where
  q g d := x0 (ix3 b 0 ⟨1024 * h.val + 128 * g.val + d.val, by omega⟩)
  kn d := x1 (ix4 b 0 h d)
  vn d := x2 (ix4 b 0 h d)
  kc p r := x3 (ix4 b h p r)
  ks j d := x4 (ix4 b h j d)
  kz j d := x5 (ix4 b h j d)
  vc p r := x6 (ix4 b h p r)
  vs p j := x7 (ix4 b h p j)
  vz p j := x8 (ix4 b h p j)
  kt p d := x9 (ix4 b h p d)
  vt p d := x10 (ix4 b h p d)

/-- The arithmetic shift of a byte's word is the logical one: the word is not negative. -/
theorem shrsi_byte (k : ArithUnit) (w : BitVec 8) : IntOp.shrsi k (w.setWidth 32) 4#32 = w.setWidth 32 >>> 4 := by
  have hk : IntOp.shrsi k (w.setWidth 32) 4#32 = (w.setWidth 32).sshiftRight' 4#32 := rfl
  rw [hk]
  clear hk
  revert w
  decide

/-! ## Splitting the positions -/

/-- The largest of the terms, taken last term apart. -/
theorem fold_max_succ {n : ℕ} (b : EReal) (f : ℕ → EReal) :
    (Finset.univ : Finset (Fin (n + 1))).fold max b (fun p => f p.val)
      = max ((Finset.univ : Finset (Fin n)).fold max b (fun p => f p.val)) (f n) := by
  rw [Fin.univ_castSuccEmb, Finset.fold_cons, Finset.fold_map, max_comm]
  rfl

/-- A sum over the positions below `n` of a range that starts at `a`. -/
theorem sum_fin_shift (f : ℕ → EReal) (a n : ℕ) : ∑ k : Fin n, f (a + k.val) = ∑ p ∈ Finset.Ico a (a + n), f p := by
  rw [Finset.sum_Ico_eq_sum_range, Nat.add_sub_cancel_left, ← Fin.sum_univ_eq_sum_range (fun k => f (a + k))]

/-- The sum over all positions: those of the cache's chunks, of its last tile, of the tail, and the new one. -/
theorem sum_split (f : ℕ → EReal) :
    ∑ p : Fin 8193, f p.val = ((∑ p ∈ Finset.Ico 0 7936, f p + ∑ k : Fin 128, f (7936 + k.val)) + ∑ k : Fin 128, f (8064 + k.val)) + f 8192 := by
  rw [sum_fin_shift f 7936 128, sum_fin_shift f 8064 128, Finset.sum_Ico_consecutive _ (by norm_num) (by norm_num),
    Finset.sum_Ico_consecutive _ (by norm_num) (by norm_num), Fin.sum_univ_castSucc]
  have h := sum_fin_shift f 0 8192
  simp only [Nat.zero_add] at h
  exact congrArg (· + f 8192) h

/-- The sum over all positions but the new one, and the new one. -/
theorem sum_last (f : ℕ → EReal) : ∑ p : Fin 8193, f p.val = ∑ p : Fin 8192, f p.val + f 8192 := by
  rw [Fin.sum_univ_castSucc]; rfl

end Cert.Attn

end
-- ==== Proof.Attn.Tile.lean ====
/- The kernel's tiles read place by place over the extended reals: the dequantised tiles of keys and values, and the
   products of two tiles side by side. -/
module

public import proofs.«01_k».proof.Proof.KernelIdeal.Cols
public import proofs.«01_k».proof.Proof.Attn.Spec
public import Idealize.ShloMosaic.Lib.MatmulPlain
public import Idealize.ShloMosaic.Lib.WordCmp

@[expose] public section

noncomputable section

namespace Cert.Attn

open Idealize.ShloMosaic Idealize.ShloMosaic.ValueIdx Cert.KernelIdeal Cert.KernelIdeal.Body
open scoped BigOperators

/-- A tile's bytes as words. -/
theorem wide_apply (w : Vec Ideal S1x1x64x128 .i8) (r : Fin 64) (l : Fin 128) :
    wide w (ix2 r l) = (w (ix4 (0 : Fin 1) (0 : Fin 1) r l)).setWidth 32 := by
  refine congrArg (fun b : BitVec 8 => b.setWidth 32) (shapeCast_apply w Gen.shapeCasts_S1x1x64x128_S64x128 (ix2 r l) (ix4 (0 : Fin 1) (0 : Fin 1) r l) ?_)
  rw [Shape.rowMajor_val_four, Shape.rowMajor_val_two]
  show ((0 * 1 + 0) * 64 + r.val) * 128 + l.val = r.val * 128 + l.val
  omega

/-- The codes of a tile: row `r` holds half `r % 2` of byte row `r / 2`. -/
theorem nib_apply (w : Vec Ideal S1x1x64x128 .i8) (r l : Fin 128) :
    nib w (ix2 r l) = code (w (ix4 (0 : Fin 1) (0 : Fin 1) (⟨r.val / 2, by omega⟩ : Fin 64) l)) (r.val % 2) := by
  refine congrArg (FloatOps.sitofp (F := Ideal) .bf16) ?_
  refine (shapeCast_apply _ _ _ (ix3 (⟨r.val / 2, by omega⟩ : Fin 64) (⟨r.val % 2, by omega⟩ : Fin 2) l) ?_).trans ?_
  · rw [Shape.rowMajor_val_three, Shape.rowMajor_val_two]
    show (r.val / 2 * 2 + r.val % 2) * 128 + l.val = r.val * 128 + l.val
    omega
  have hcast : ∀ x : IVec S64x128 32, shapeCast S64x1x128 x Gen.shapeCasts_S64x128_S64x1x128 (ix3 (⟨r.val / 2, by omega⟩ : Fin 64) (0 : Fin 1) l)
      = x (ix2 (⟨r.val / 2, by omega⟩ : Fin 64) l) := fun x => shapeCast_apply _ _ _ _ (by
    rw [Shape.rowMajor_val_three, Shape.rowMajor_val_two]
    show r.val / 2 * 128 + l.val = (r.val / 2 * 1 + 0) * 128 + l.val
    omega)
  unfold nibble
  split
  · rename_i h0
    refine (concatenate_pair_apply_left (t := S64x2x128) (s₁ := S64x1x128) (s₂ := S64x1x128) 1 _ _ _ (ix3 (⟨r.val / 2, by omega⟩ : Fin 64) (⟨r.val % 2, by omega⟩ : Fin 2) l) rfl
      (ix3 (⟨r.val / 2, by omega⟩ : Fin 64) (0 : Fin 1) l) (fun a => match a with
        | ⟨0, _⟩ => rfl
        | ⟨1, _⟩ => h0.symm
        | ⟨2, _⟩ => rfl)).trans ?_
    rw [hcast]
    exact congrArg (· &&& 15#32) (wide_apply w _ l)
  · rename_i h0
    refine (concatenate_pair_apply_right (t := S64x2x128) (s₁ := S64x1x128) (s₂ := S64x1x128) 1 _ _ _ (ix3 (⟨r.val / 2, by omega⟩ : Fin 64) (⟨r.val % 2, by omega⟩ : Fin 2) l) rfl rfl
      (ix3 (⟨r.val / 2, by omega⟩ : Fin 64) (0 : Fin 1) l) (fun a => match a with
        | ⟨0, _⟩ => fun _ => rfl
        | ⟨1, _⟩ => fun hn => absurd rfl hn
        | ⟨2, _⟩ => fun _ => rfl) (by show 0 + 1 = r.val % 2; omega)).trans ?_
    rw [hcast]
    exact (congrArg (IntOp.shrsi .vector · 4#32) (wide_apply w _ l)).trans (shrsi_byte .vector _)

/-- The identity matrix. -/
theorem eye_apply (i j : Fin 128) : eye (F := Ideal) (ix2 i j) = if i = j then 1 else 0 := by
  have e : eye (F := Ideal) (ix2 i j)
      = FloatOps.sitofp (F := Ideal) .f32 ((IntOp.cmpi .eq (BitVec.ofNat 32 i.val) (BitVec.ofNat 32 j.val)).setWidth 32) := by
    have h0 := iota_single_apply .tc S128x128 32 0 Gen.iota_S128x128_d0_w32 (ix2 i j)
    have h1 := iota_single_apply .tc S128x128 32 1 Gen.iota_S128x128_d1_w32 (ix2 i j)
    exact congrArg₂ (fun u v => FloatOps.sitofp (F := Ideal) .f32 ((IntOp.cmpi .eq u v).setWidth 32)) h0 h1
  rw [e, WordCmp.cmpi_eq_ofNat (by omega) (by omega)]
  show (((((BitVec.ofBool (decide (i.val = j.val))).setWidth 32).toInt : ℝ)) : EReal) = _
  by_cases h : i = j
  · have e1 : ((BitVec.ofBool true).setWidth 32).toInt = 1 := by decide
    rw [if_pos h, decide_eq_true (congrArg Fin.val h), e1]
    norm_num
  · have e1 : ((BitVec.ofBool false).setWidth 32).toInt = 0 := by decide
    rw [if_neg h, decide_eq_false (fun e => h (Fin.ext e)), e1]
    norm_num

/-- The transposed scales. -/
theorem tVal_apply (x : Vec Ideal S1x1008x128 .bf16) (d : Fin 128) (j : Fin 1008) :
    tVal x (ix2 d j) = x (ix3 (0 : Fin 1) j d) := by
  refine (shapeCast_apply _ _ _ (ix2 d j) rfl).trans ?_
  refine (Ideal.matmul_transposedRhs_apply (M := 128) (K := 128) (N := 1008) none (eye (F := Ideal)) _ _ d j).trans ?_
  refine (congrArg₂ (fun u v : EReal => u + v) Ideal.ofBits_zero_f32 (Finset.sum_congr rfl fun k _ =>
    congrArg (fun u : EReal => u * _) (eye_apply d k))).trans ?_
  rw [zero_add, Finset.sum_eq_single d (fun k _ hk => by rw [if_neg (Ne.symm hk), zero_mul]) (fun h => absurd (Finset.mem_univ _) h), if_pos rfl, one_mul]
  refine shapeCast_apply _ _ _ (ix3 (0 : Fin 1) j d) ?_
  rw [Shape.rowMajor_val_three, Shape.rowMajor_val_two]
  show (0 * 1008 + j.val) * 128 + d.val = j.val * 128 + d.val
  omega

/-- The place of a tile's byte. -/
theorem emb_rK (t : ℕ) (ht : t < 63) (r : Fin 64) (l : Fin 128) :
    (rK t ht).emb (ix4 (0 : Fin 1) (0 : Fin 1) r l) = ix4 (0 : Fin 1) (0 : Fin 1) r (⟨128 * t + l.val, by omega⟩ : Fin 8064) :=
  funext fun
    | ⟨0, _⟩ => rfl
    | ⟨1, _⟩ => rfl
    | ⟨2, _⟩ => Fin.ext ((Nat.zero_add _).trans (Nat.one_mul _))
    | ⟨3, _⟩ => Fin.ext (congrArg (128 * t + ·) (Nat.one_mul _))

/-- A dequantised tile of keys, place by place. -/
theorem kDeq_apply (k : Fin 4) (t : ℕ) (ht : t < 63) (X : Vec Ideal S1x1x64x8064 .i8) (x4 x5 : Vec Ideal S1x1008x128 .bf16) (d l : Fin 128) :
    kDeq (BitVec.ofNat 32 k.val) t ht X (scr x4) (scr x5) (ix2 d l)
      = code (X (ix4 (0 : Fin 1) (0 : Fin 1) (⟨d.val / 2, by omega⟩ : Fin 64) (⟨128 * t + l.val, by omega⟩ : Fin 8064))) (d.val % 2)
          * x4 (ix3 (0 : Fin 1) (col t ht k l) d) + x5 (ix3 (0 : Fin 1) (col t ht k l) d) := by
  have hs : ∀ x : Vec Ideal S1x1008x128 .bf16,
      spread t (BitVec.ofNat 32 k.val) (fun y => scr x ((rG t ht).emb y)) (ix2 d l) = x (ix3 (0 : Fin 1) (col t ht k l) d) := fun x =>
    (spread_apply t ht k (scr x) d l).trans (show scr x (ix2 d (⟨(col t ht k l).val, by omega⟩ : Fin 1024)) = _ from (holds_upd _ x d (col t ht k l)).trans (tVal_apply x d _))
  refine congrArg₂ (fun u v : EReal => u + v) (congrArg₂ (fun u v : EReal => u * v) ?_ (hs x4)) (hs x5)
  rw [nib_apply, emb_rK]

/-- The place of a group's scale. -/
theorem emb_rV (g t : ℕ) (hg : g < 4) (ht : t < 63) (l : Fin 128) :
    (rV g t hg ht).emb (ix4 (0 : Fin 1) (0 : Fin 1) (0 : Fin 1) l) = ix4 (0 : Fin 1) (0 : Fin 1) (⟨g, hg⟩ : Fin 4) (⟨128 * t + l.val, by omega⟩ : Fin 8064) :=
  funext fun
    | ⟨0, _⟩ => rfl
    | ⟨1, _⟩ => rfl
    | ⟨2, _⟩ => Fin.ext rfl
    | ⟨3, _⟩ => Fin.ext (congrArg (128 * t + ·) (Nat.one_mul _))

/-- A row of scales over its group's rows. -/
theorem rowB_apply (s : Vec Ideal S1x1x1x128 .bf16) (r : Fin 32) (l : Fin 128) :
    rowB s (ix2 r l) = s (ix4 (0 : Fin 1) (0 : Fin 1) (0 : Fin 1) l) := by
  refine (broadcastTo_1b_ab_apply (a := 32) (b := 128) _ _ r l).trans (shapeCast_apply _ _ _ _ ?_)
  rw [Shape.rowMajor_val_four, Shape.rowMajor_val_two]
  show ((0 * 1 + 0) * 1 + 0) * 128 + l.val = 0 * 128 + l.val
  omega

/-- A group's piece of a dequantised tile of values. -/
theorem vPiece_apply (w : Vec Ideal S1x1x64x128 .i8) (s z : Vec Ideal S1x1x1x128 .bf16) (o : ℕ) (h : S128x128.Slices ![o, 0] S32x128)
    (r : Fin 32) (l : Fin 128) (d : Fin 128) (hd : d.val = o + r.val) :
    addf (mulf (extractStridedSlice S32x128 ![o, 0] (nib w) h) (rowB s)) (rowB z) (ix2 r l)
      = code (w (ix4 (0 : Fin 1) (0 : Fin 1) (⟨d.val / 2, by omega⟩ : Fin 64) l)) (d.val % 2)
          * s (ix4 (0 : Fin 1) (0 : Fin 1) (0 : Fin 1) l) + z (ix4 (0 : Fin 1) (0 : Fin 1) (0 : Fin 1) l) := by
  refine congrArg₂ (fun u v : EReal => u + v) (congrArg₂ (fun u v : EReal => u * v) ?_ (rowB_apply s r l)) (rowB_apply z r l)
  refine (extractStridedSlice_apply _ _ h (ix2 r l) (ix2 d l) (fun a => match a with
    | ⟨0, _⟩ => hd
    | ⟨1, _⟩ => (Nat.zero_add _).symm)).trans (nib_apply w d l)

/-- A dequantised tile of values, place by place. -/
theorem vDeq_apply (t : ℕ) (ht : t < 63) (X : Vec Ideal S1x1x64x8064 .i8) (S Z : Vec Ideal S1x1x4x8064 .bf16) (d l : Fin 128) :
    vDeq t ht X S Z (ix2 d l)
      = code (X (ix4 (0 : Fin 1) (0 : Fin 1) (⟨d.val / 2, by omega⟩ : Fin 64) (⟨128 * t + l.val, by omega⟩ : Fin 8064))) (d.val % 2)
          * S (ix4 (0 : Fin 1) (0 : Fin 1) (⟨d.val / 32, by omega⟩ : Fin 4) (⟨128 * t + l.val, by omega⟩ : Fin 8064))
          + Z (ix4 (0 : Fin 1) (0 : Fin 1) (⟨d.val / 32, by omega⟩ : Fin 4) (⟨128 * t + l.val, by omega⟩ : Fin 8064)) := by
  unfold vDeq vVal
  have key : ∀ (g : ℕ) (hg : g < 4) (h : S128x128.Slices ![32 * g, 0] S32x128) (hd : d.val / 32 = g),
      addf (mulf (extractStridedSlice S32x128 ![32 * g, 0] (nib (fun x => X ((rK t ht).emb x))) h) (rowB (fun x => S ((rV g t hg ht).emb x))))
          (rowB (fun x => Z ((rV g t hg ht).emb x))) (ix2 (⟨d.val % 32, by omega⟩ : Fin 32) l)
        = code (X (ix4 (0 : Fin 1) (0 : Fin 1) (⟨d.val / 2, by omega⟩ : Fin 64) (⟨128 * t + l.val, by omega⟩ : Fin 8064))) (d.val % 2)
          * S (ix4 (0 : Fin 1) (0 : Fin 1) (⟨d.val / 32, by omega⟩ : Fin 4) (⟨128 * t + l.val, by omega⟩ : Fin 8064))
          + Z (ix4 (0 : Fin 1) (0 : Fin 1) (⟨d.val / 32, by omega⟩ : Fin 4) (⟨128 * t + l.val, by omega⟩ : Fin 8064)) := by
    intro g hg h hd
    subst hd
    rw [vPiece_apply _ _ _ _ h _ l d (show d.val = 32 * (d.val / 32) + d.val % 32 by omega), emb_rK, emb_rV]
  have hcases : d.val / 32 = 0 ∨ d.val / 32 = 1 ∨ d.val / 32 = 2 ∨ d.val / 32 = 3 := by omega
  rcases hcases with hd | hd | hd | hd
  · refine (concatenate_apply_piece (0 : Fin S128x128.rank) _ _ (ix2 d l) 0 (by simp) S32x128 _ rfl rfl 0 rfl (ix2 (⟨d.val % 32, by omega⟩ : Fin 32) l) (fun a => match a with
        | ⟨0, _⟩ => fun hn => absurd rfl hn
        | ⟨1, _⟩ => fun _ => rfl) (show 0 + d.val % 32 = d.val by omega)).trans (key 0 (by decide) _ hd)
  · refine (concatenate_apply_piece (0 : Fin S128x128.rank) _ _ (ix2 d l) 1 (by simp) S32x128 _ rfl rfl 32 rfl (ix2 (⟨d.val % 32, by omega⟩ : Fin 32) l) (fun a => match a with
        | ⟨0, _⟩ => fun hn => absurd rfl hn
        | ⟨1, _⟩ => fun _ => rfl) (show 32 + d.val % 32 = d.val by omega)).trans (key 1 (by decide) _ hd)
  · refine (concatenate_apply_piece (0 : Fin S128x128.rank) _ _ (ix2 d l) 2 (by simp) S32x128 _ rfl rfl 64 rfl (ix2 (⟨d.val % 32, by omega⟩ : Fin 32) l) (fun a => match a with
        | ⟨0, _⟩ => fun hn => absurd rfl hn
        | ⟨1, _⟩ => fun _ => rfl) (show 64 + d.val % 32 = d.val by omega)).trans (key 2 (by decide) _ hd)
  · refine (concatenate_apply_piece (0 : Fin S128x128.rank) _ _ (ix2 d l) 3 (by simp) S32x128 _ rfl rfl 96 rfl (ix2 (⟨d.val % 32, by omega⟩ : Fin 32) l) (fun a => match a with
        | ⟨0, _⟩ => fun hn => absurd rfl hn
        | ⟨1, _⟩ => fun _ => rfl) (show 96 + d.val % 32 = d.val by omega)).trans (key 3 (by decide) _ hd)

/-- Two tiles side by side. -/
theorem two_apply (a b : FVec Ideal S128x128 .bf16) (h : Shape.Concatenates [S128x128, S128x128] S128x256 1) (d : Fin 128) (j : Fin 256) :
    concatenate S128x256 1 [⟨S128x128, a⟩, ⟨S128x128, b⟩] h (ix2 d j)
      = if hj : j.val < 128 then a (ix2 d (⟨j.val, hj⟩ : Fin 128)) else b (ix2 d (⟨j.val - 128, by omega⟩ : Fin 128)) := by
  split
  · rename_i hj
    exact concatenate_pair_apply_left (t := S128x256) (s₁ := S128x128) (s₂ := S128x128) 1 a b h (ix2 d j) rfl (ix2 d (⟨j.val, hj⟩ : Fin 128)) (fun a => match a with
        | ⟨0, _⟩ => rfl
        | ⟨1, _⟩ => rfl)
  · rename_i hj
    exact concatenate_pair_apply_right (t := S128x256) (s₁ := S128x128) (s₂ := S128x128) 1 a b h (ix2 d j) rfl rfl (ix2 d (⟨j.val - 128, by omega⟩ : Fin 128)) (fun a => match a with
        | ⟨0, _⟩ => fun _ => rfl
        | ⟨1, _⟩ => fun hn => absurd rfl hn) (show j.val - 128 + 128 = j.val by omega)

end Cert.Attn

end
-- ==== Proof.Attn.Point.lean ====
/- The kernel's result at a point of its grid: the attention of the head whose blocks the point reads. -/
module

public import proofs.«01_k».proof.Proof.Attn.Tile

@[expose] public section

noncomputable section

namespace Cert.Attn

open Idealize.ShloMosaic Idealize.ShloMosaic.ValueIdx Cert.KernelIdeal Cert.KernelIdeal.Body
open scoped BigOperators

/-- The head a point's blocks hold, `k` being its number in the batch. -/
def headB (k : Fin 4) (x0 : Vec Ideal S1x8x128 .f32) (x1 x2 : Vec Ideal S1x4x128 .f32) (x3 : Vec Ideal S1x1x64x8064 .i8)
    (x4 x5 : Vec Ideal S1x1008x128 .bf16) (x6 : Vec Ideal S1x1x64x8064 .i8) (x7 x8 : Vec Ideal S1x1x4x8064 .bf16)
    (x9 x10 : Vec Ideal S1x1x128x128 .bf16) : Head where
  q g d := x0 (ix3 (0 : Fin 1) g d)
  kn d := x1 (ix3 (0 : Fin 1) k d)
  vn d := x2 (ix3 (0 : Fin 1) k d)
  kc p r := x3 (ix4 (0 : Fin 1) (0 : Fin 1) r p)
  ks j d := x4 (ix3 (0 : Fin 1) (⟨4 * j.val + k.val, by omega⟩ : Fin 1008) d)
  kz j d := x5 (ix3 (0 : Fin 1) (⟨4 * j.val + k.val, by omega⟩ : Fin 1008) d)
  vc p r := x6 (ix4 (0 : Fin 1) (0 : Fin 1) r p)
  vs p j := x7 (ix4 (0 : Fin 1) (0 : Fin 1) j p)
  vz p j := x8 (ix4 (0 : Fin 1) (0 : Fin 1) j p)
  kt p d := x9 (ix4 (0 : Fin 1) (0 : Fin 1) p d)
  vt p d := x10 (ix4 (0 : Fin 1) (0 : Fin 1) p d)

variable (k : Fin 4) (x0 : Vec Ideal S1x8x128 .f32) (x1 x2 : Vec Ideal S1x4x128 .f32) (x3 : Vec Ideal S1x1x64x8064 .i8)
  (x4 x5 : Vec Ideal S1x1008x128 .bf16) (x6 : Vec Ideal S1x1x64x8064 .i8) (x7 x8 : Vec Ideal S1x1x4x8064 .bf16)
  (x9 x10 : Vec Ideal S1x1x128x128 .bf16)

/-- A dequantised tile of keys holds the cache's keys. -/
theorem kDeq_key (t : ℕ) (ht : t < 63) (d l : Fin 128) :
    kDeq (BitVec.ofNat 32 k.val) t ht x3 (scr x4) (scr x5) (ix2 d l)
      = (headB k x0 x1 x2 x3 x4 x5 x6 x7 x8 x9 x10).key (128 * t + l.val) d := by
  have hp : 128 * t + l.val < 8064 := by omega
  have hc : col t ht k l = (⟨4 * ((128 * t + l.val) / 32) + k.val, by omega⟩ : Fin 1008) :=
    Fin.ext (by show 4 * (4 * t + l.val / 32) + k.val = 4 * ((128 * t + l.val) / 32) + k.val; omega)
  rw [kDeq_apply, hc]
  unfold Head.key
  rw [dif_pos hp]
  rfl

/-- A dequantised tile of values holds the cache's values. -/
theorem vDeq_val (t : ℕ) (ht : t < 63) (d l : Fin 128) :
    vDeq t ht x6 x7 x8 (ix2 d l) = (headB k x0 x1 x2 x3 x4 x5 x6 x7 x8 x9 x10).val (128 * t + l.val) d := by
  have hp : 128 * t + l.val < 8064 := by omega
  rw [vDeq_apply]
  unfold Head.val
  rw [dif_pos hp]
  rfl

/-- Two tiles of keys side by side. -/
theorem kTwo (c : ℕ) (hc : c < 31) (h : Shape.Concatenates [S128x128, S128x128] S128x256 1) (d : Fin 128) (j : Fin 256) :
    concatenate S128x256 1 [⟨S128x128, kDeq (BitVec.ofNat 32 k.val) (2 * c) (by omega) x3 (scr x4) (scr x5)⟩,
        ⟨S128x128, kDeq (BitVec.ofNat 32 k.val) (2 * c + 1) (by omega) x3 (scr x4) (scr x5)⟩] h (ix2 d j)
      = (headB k x0 x1 x2 x3 x4 x5 x6 x7 x8 x9 x10).key (256 * c + j.val) d := by
  rw [two_apply]
  split
  · rename_i hj
    rw [kDeq_key k x0 x1 x2 x3 x4 x5 x6 x7 x8 x9 x10, show 128 * (2 * c) + j.val = 256 * c + j.val by omega]
  · rename_i hj
    rw [kDeq_key k x0 x1 x2 x3 x4 x5 x6 x7 x8 x9 x10, show 128 * (2 * c + 1) + (j.val - 128) = 256 * c + j.val by omega]

/-- Two tiles of values side by side. -/
theorem vTwo (c : ℕ) (hc : c < 31) (h : Shape.Concatenates [S128x128, S128x128] S128x256 1) (d : Fin 128) (j : Fin 256) :
    concatenate S128x256 1 [⟨S128x128, vDeq (2 * c) (by omega) x6 x7 x8⟩, ⟨S128x128, vDeq (2 * c + 1) (by omega) x6 x7 x8⟩] h (ix2 d j)
      = (headB k x0 x1 x2 x3 x4 x5 x6 x7 x8 x9 x10).val (256 * c + j.val) d := by
  rw [two_apply]
  split
  · rename_i hj
    rw [vDeq_val k x0 x1 x2 x3 x4 x5 x6 x7 x8 x9 x10, show 128 * (2 * c) + j.val = 256 * c + j.val by omega]
  · rename_i hj
    rw [vDeq_val k x0 x1 x2 x3 x4 x5 x6 x7 x8 x9 x10, show 128 * (2 * c + 1) + (j.val - 128) = 256 * c + j.val by omega]

/-- The queries. -/
theorem qOf_apply (g : Fin 8) (d : Fin 128) : qOf x0 (ix2 g d) = x0 (ix3 (0 : Fin 1) g d) := by
  refine (shapeCast_apply (fun x => x0 ((Rect.unit (s := S1x8x128) ![0, 0, 0] S1x8x128.size Gen.inb_S1x8x128_S1x8x128_0_0_0).emb x)) Gen.shapeCasts_S1x8x128_S8x128 (ix2 g d) (ix3 (0 : Fin 1) g d) ?_).trans
    (congrArg x0 (emb_whole (s := S1x8x128) _ _ _))
  rw [Shape.rowMajor_val_three, Shape.rowMajor_val_two]
  show (0 * 8 + g.val) * 128 + d.val = g.val * 128 + d.val
  omega

/-- The scores of a chunk. -/
theorem scores2_apply (c : ℕ) (hc : c < 31) (g : Fin 8) (j : Fin 256) :
    scores2 (qOf x0) (kDeq (BitVec.ofNat 32 k.val) (2 * c) (by omega) x3 (scr x4) (scr x5))
        (kDeq (BitVec.ofNat 32 k.val) (2 * c + 1) (by omega) x3 (scr x4) (scr x5)) (ix2 g j)
      = (headB k x0 x1 x2 x3 x4 x5 x6 x7 x8 x9 x10).score g (256 * c + j.val) := by
  refine (shapeCast_apply _ _ _ (ix2 g j) rfl).trans ?_
  refine (Ideal.matmul_plain_apply (M := 8) (K := 128) (N := 256) none (qOf x0) _ _ g j).trans ?_
  refine (congrArg (fun u : EReal => u + _) Ideal.ofBits_zero_f32).trans ((zero_add _).trans (Finset.sum_congr rfl fun d _ => ?_))
  rw [kTwo k x0 x1 x2 x3 x4 x5 x6 x7 x8 x9 x10 c hc, qOf_apply]
  rfl

/-- The scores of the last tile. -/
theorem scores1_apply (g : Fin 8) (j : Fin 128) :
    scores1 (qOf x0) (kDeq (BitVec.ofNat 32 k.val) 62 (by decide) x3 (scr x4) (scr x5)) (ix2 g j)
      = (headB k x0 x1 x2 x3 x4 x5 x6 x7 x8 x9 x10).score g (7936 + j.val) := by
  refine (shapeCast_apply _ _ _ (ix2 g j) rfl).trans ?_
  refine (Ideal.matmul_plain_apply (M := 8) (K := 128) (N := 128) none (qOf x0) _ _ g j).trans ?_
  refine (congrArg (fun u : EReal => u + _) Ideal.ofBits_zero_f32).trans ((zero_add _).trans (Finset.sum_congr rfl fun d _ => ?_))
  rw [kDeq_key k x0 x1 x2 x3 x4 x5 x6 x7 x8 x9 x10, qOf_apply]
  rfl

/-- An unpacked block as a matrix. -/
theorem tail_apply (x : Vec Ideal S1x1x128x128 .bf16) (p d : Fin 128) :
    shapeCast S128x128 x Gen.shapeCasts_S1x1x128x128_S128x128 (ix2 p d) = x (ix4 (0 : Fin 1) (0 : Fin 1) p d) := by
  refine shapeCast_apply _ _ _ _ ?_
  rw [Shape.rowMajor_val_four, Shape.rowMajor_val_two]
  show ((0 * 1 + 0) * 128 + p.val) * 128 + d.val = p.val * 128 + d.val
  omega

/-- The keys of the tail. -/
theorem key_tail (H : Head) (j d : Fin 128) : H.key (8064 + j.val) d = H.kt j d := by
  unfold Head.key
  rw [dif_neg (by omega), dif_pos (by omega : 8064 + j.val - 8064 < 128)]
  exact congrArg (H.kt · d) (Fin.ext (by show 8064 + j.val - 8064 = j.val; omega))

/-- The values of the tail. -/
theorem val_tail (H : Head) (j d : Fin 128) : H.val (8064 + j.val) d = H.vt j d := by
  unfold Head.val
  rw [dif_neg (by omega), dif_pos (by omega : 8064 + j.val - 8064 < 128)]
  exact congrArg (H.vt · d) (Fin.ext (by show 8064 + j.val - 8064 = j.val; omega))

/-- The new key. -/
theorem key_new (H : Head) (d : Fin 128) : H.key 8192 d = H.kn d := by
  unfold Head.key
  rw [dif_neg (by omega), dif_neg (by omega)]

/-- The new value. -/
theorem val_new (H : Head) (d : Fin 128) : H.val 8192 d = H.vn d := by
  unfold Head.val
  rw [dif_neg (by omega), dif_neg (by omega)]

/-- The scores of the tail. -/
theorem scoresT_apply (g : Fin 8) (j : Fin 128) :
    scoresT (qOf x0) x9 (ix2 g j) = (headB k x0 x1 x2 x3 x4 x5 x6 x7 x8 x9 x10).score g (8064 + j.val) := by
  refine (shapeCast_apply _ _ _ (ix2 g j) rfl).trans ?_
  refine (Ideal.matmul_transposedRhs_apply (M := 8) (K := 128) (N := 128) none (qOf x0) _ _ g j).trans ?_
  refine (congrArg (fun u : EReal => u + _) Ideal.ofBits_zero_f32).trans ((zero_add _).trans (Finset.sum_congr rfl fun d _ => ?_))
  rw [tail_apply, qOf_apply, key_tail]
  rfl

/-- Every score of the cache and the tail, as the loops leave them. -/
theorem sAll_apply (e0 : Vec Ideal S8x8192 .f32) (g : Fin 8) (p : Fin 8192) :
    sAll (BitVec.ofNat 32 k.val) (qOf x0) x3 (scr x4) (scr x5) x9 e0 (ix2 g p)
      = (headB k x0 x1 x2 x3 x4 x5 x6 x7 x8 x9 x10).score g p.val := by
  obtain ⟨p, hp⟩ := p
  by_cases h1 : p < 7936
  · have e : 256 * (p / 256) + p % 256 = p := by omega
    have a := sAll_chunk (BitVec.ofNat 32 k.val) (qOf x0) x3 (scr x4) (scr x5) x9 e0
      (p / 256) (by omega) g ⟨p % 256, by omega⟩
    rw [scores2_apply k x0 x1 x2 x3 x4 x5 x6 x7 x8 x9 x10 (p / 256) (by omega)] at a
    simpa only [e] using a
  by_cases h2 : p < 8064
  · have e : 7936 + (p - 7936) = p := by omega
    have a := sAll_last (BitVec.ofNat 32 k.val) (qOf x0) x3 (scr x4) (scr x5) x9 e0 g ⟨p - 7936, by omega⟩
    rw [scores1_apply k x0 x1 x2 x3 x4 x5 x6 x7 x8 x9 x10] at a
    simpa only [e] using a
  · have e : 8064 + (p - 8064) = p := by omega
    have a := sAll_tail (BitVec.ofNat 32 k.val) (qOf x0) x3 (scr x4) (scr x5) x9 e0 g ⟨p - 8064, by omega⟩
    rw [scoresT_apply k x0 x1 x2 x3 x4 x5 x6 x7 x8 x9 x10] at a
    simpa only [e] using a

/-- A new row, rounded, is itself. -/
theorem rowVal_apply (x : Vec Ideal S1x1x128 .f32) (d : Fin 128) : rowVal x (ix2 (0 : Fin 1) d) = x (ix3 (0 : Fin 1) (0 : Fin 1) d) := by
  refine shapeCast_apply x Gen.shapeCasts_S1x1x128_S1x128 (ix2 (0 : Fin 1) d) (ix3 (0 : Fin 1) (0 : Fin 1) d) ?_
  rw [Shape.rowMajor_val_three, Shape.rowMajor_val_two]
  rfl

/-- A column over a row's lanes. -/
theorem column_apply {n : ℕ} (v : FVec Ideal S8x1 .f32) (h : S8x1.Broadcasts ⟨2, ![8, n]⟩) (g : Fin 8) (p : Fin n) :
    broadcastTo ⟨2, ![8, n]⟩ v h (ix2 g p) = v (ix2 g (0 : Fin 1)) := by
  refine broadcastTo_apply v h (ix2 g p) (ix2 g (0 : Fin 1)) fun a => ?_
  match a with
  | ⟨0, _⟩ => rfl
  | ⟨1, _⟩ => rfl

/-- A row's results as a column. -/
theorem col1_apply (v : FVec Ideal S8 .f32) (h : S8.ShapeCasts S8x1) (g : Fin 8) :
    shapeCast S8x1 v h (ix2 g (0 : Fin 1)) = v (ix1 g) := by
  refine shapeCast_apply v h _ _ ?_
  rw [Shape.rowMajor_val_two, Shape.rowMajor_val_one]
  show g.val = g.val * 1 + 0
  omega

/-- A row of a matrix under a reduction of its lanes. -/
theorem lift_row {n : ℕ} (h : (⟨2, ![8, n]⟩ : Shape).Reduces [1] S8) (g : Fin 8) (p : Fin n) : h.lift (ix1 g) p = ix2 g p := by
  funext a
  match a with
  | ⟨0, _⟩ => rfl
  | ⟨1, _⟩ => rfl

/-- The scaled score of the new position. -/
theorem sNew_apply (x : Vec Ideal S1x1x128 .f32) (hx : ∀ d, x (ix3 (0 : Fin 1) (0 : Fin 1) d) = x1 (ix3 (0 : Fin 1) k d)) (g : Fin 8) :
    sNew (qOf x0) x (ix2 g (0 : Fin 1)) = (headB k x0 x1 x2 x3 x4 x5 x6 x7 x8 x9 x10).scaled g 8192 := by
  refine congrArg (fun u : EReal => u * Ideal.ofBits .f32 0x3DB504F3#32) ((col1_apply _ _ g).trans ?_)
  refine (Ideal.multiReduction_add_single _ _ _ _ _ _).trans ?_
  unfold Head.score
  refine Finset.sum_congr rfl fun (d : Fin 128) _ => ?_
  refine (congrArg (mulf _ _) (lift_row (n := 128) _ g d)).trans ?_
  refine congrArg₂ (fun u v : EReal => u * v) (qOf_apply x0 g d) ?_
  exact (broadcastTo_1b_ab_apply (a := 8) (b := 128) _ _ g d).trans ((rowVal_apply x d).trans ((hx d).trans (key_new (headB k x0 x1 x2 x3 x4 x5 x6 x7 x8 x9 x10) d).symm))

section Soft

variable (H : Head) (s : Vec Ideal S8x8192 .f32) (sn : FVec Ideal S8x1 .f32)
  (hs : ∀ (g : Fin 8) (p : Fin 8192), s (ix2 g p) = H.score g p.val) (hn : ∀ g : Fin 8, sn (ix2 g (0 : Fin 1)) = H.scaled g 8192)

include hs hn

/-- The largest score of a row. -/
theorem mVal_apply (g : Fin 8) : mVal s sn (ix2 g (0 : Fin 1)) = H.top g := by
  unfold Head.top
  rw [fold_max_succ (n := 8192)]
  refine congrArg₂ (fun u v : EReal => max u v) ((col1_apply _ _ g).trans ((Ideal.multiReduction_maximumf_single _ _ _ _ _ _).trans ?_)) (hn g)
  have hf : scaled s ∘ Gen.reduces_S8x8192_S8.lift (ix1 g) = fun p : Fin 8192 => H.scaled g p.val :=
    funext fun p => (congrArg (scaled s) (lift_row (n := 8192) _ g p)).trans
      (congrArg (fun u : EReal => u * Ideal.ofBits .f32 0x3DB504F3#32) (hs g p))
  rw [hf]
  rfl

/-- The weights of the cache and the tail. -/
theorem pVal_apply (g : Fin 8) (p : Fin 8192) : pVal s sn (ix2 g p) = H.weight g p.val :=
  congrArg₂ (fun u v : EReal => Ideal.exp (u - v)) (congrArg (fun u : EReal => u * Ideal.ofBits .f32 0x3DB504F3#32) (hs g p))
    ((column_apply (n := 8192) _ _ g p).trans (mVal_apply H s sn hs hn g))

/-- The weight of the new position. -/
theorem pNew_apply (g : Fin 8) : pNew s sn (ix2 g (0 : Fin 1)) = H.weight g 8192 :=
  congrArg₂ (fun u v : EReal => Ideal.exp (u - v)) (hn g) (mVal_apply H s sn hs hn g)

/-- The sum of the weights. -/
theorem lVal_apply (g : Fin 8) : lVal s sn (ix2 g (0 : Fin 1)) = H.den g := by
  unfold Head.den
  rw [sum_last (H.weight g)]
  refine congrArg₂ (fun u v : EReal => u + v) ((col1_apply _ _ g).trans ((Ideal.multiReduction_add_single _ _ _ _ _ _).trans
    (Finset.sum_congr rfl fun p _ => ?_))) (pNew_apply H s sn hs hn g)
  exact (congrArg (pVal s sn) (lift_row (n := 8192) _ g p)).trans (pVal_apply H s sn hs hn g p)

/-- A slice of the weights. -/
theorem pSlice {n : ℕ} (o : ℕ) (h : S8x8192.Slices ![0, o] ⟨2, ![8, n]⟩) (g : Fin 8) (j : Fin n) (hj : o + j.val < 8192) :
    extractStridedSlice ⟨2, ![8, n]⟩ ![0, o] (pbVal s sn) h (ix2 g j) = H.weight g (o + j.val) := by
  refine (extractStridedSlice_apply ![0, o] (pbVal s sn) h (ix2 g j) (ix2 g (⟨o + j.val, hj⟩ : Fin 8192)) fun a => ?_).trans
    (pVal_apply H s sn hs hn g ⟨o + j.val, hj⟩)
  match a with
  | ⟨0, _⟩ => exact (Nat.zero_add _).symm
  | ⟨1, _⟩ => rfl

/-- A chunk's part of the weighted sum. -/
theorem vAdd_apply (c : ℕ) (hc : c < 31) (a b : FVec Ideal S128x128 .bf16) (d : Fin 128) (g : Fin 8)
    (hv : ∀ (h : Shape.Concatenates [S128x128, S128x128] S128x256 1) (j : Fin 256),
      concatenate S128x256 1 [⟨S128x128, a⟩, ⟨S128x128, b⟩] h (ix2 d j) = H.val (256 * c + j.val) d) :
    vAdd c hc (pbVal s sn) a b (ix2 d g) = ∑ p ∈ Finset.Ico (256 * c) (256 * c + 256), H.weight g p * H.val p d := by
  refine (Ideal.matmul_transposedRhs_apply (M := 128) (K := 256) (N := 8) none _ _ _ d g).trans ?_
  refine (congrArg (fun u : EReal => u + _) Ideal.ofBits_zero_f32).trans ((zero_add _).trans ?_)
  rw [← sum_fin_shift (fun p => H.weight g p * H.val p d)]
  refine Finset.sum_congr rfl fun j _ => ?_
  rw [hv, pSlice H s sn hs hn (n := 256) (256 * c) _ g j (by omega), mul_comm]

end Soft

/-- The loop over the chunks of values adds up the weighted values from its first chunk on. -/
theorem accChunks_apply (s : Vec Ideal S8x8192 .f32) (sn : FVec Ideal S8x1 .f32)
    (hs : ∀ (g : Fin 8) (p : Fin 8192), s (ix2 g p) = (headB k x0 x1 x2 x3 x4 x5 x6 x7 x8 x9 x10).score g p.val)
    (hn : ∀ g : Fin 8, sn (ix2 g (0 : Fin 1)) = (headB k x0 x1 x2 x3 x4 x5 x6 x7 x8 x9 x10).scaled g 8192) (d : Fin 128) (g : Fin 8) :
    ∀ (n : ℕ) (hnn : n ≤ 31) (acc : FVec Ideal S128x8 .f32),
      accChunks (pbVal s sn) x6 x7 x8 n hnn acc (ix2 d g) = acc (ix2 d g)
        + ∑ p ∈ Finset.Ico (256 * (31 - n)) 7936, (headB k x0 x1 x2 x3 x4 x5 x6 x7 x8 x9 x10).weight g p
          * (headB k x0 x1 x2 x3 x4 x5 x6 x7 x8 x9 x10).val p d
  | 0, _, acc => by
    rw [accChunks, show Finset.Ico (256 * (31 - 0)) 7936 = ∅ from Finset.Ico_self _, Finset.sum_empty, add_zero]
  | n + 1, h, acc => by
    rw [accChunks, accChunks_apply s sn hs hn d g n (by omega)]
    have e := vAdd_apply (headB k x0 x1 x2 x3 x4 x5 x6 x7 x8 x9 x10) s sn hs hn (31 - (n + 1)) (by omega)
      (vDeq (2 * (31 - (n + 1))) (by omega) x6 x7 x8) (vDeq (2 * (31 - (n + 1)) + 1) (by omega) x6 x7 x8) d g
      (fun hh j => vTwo k x0 x1 x2 x3 x4 x5 x6 x7 x8 x9 x10 (31 - (n + 1)) (by omega) hh d j)
    refine (congrArg (fun u : EReal => (acc (ix2 d g) + u) + _) e).trans ?_
    rw [add_assoc, show 256 * (31 - (n + 1)) + 256 = 256 * (31 - n) by omega, Finset.sum_Ico_consecutive _ (by omega) (by omega)]

/-- A quotient, place by place. -/
theorem div_apply (a b : FVec Ideal S8x128 .f32) (i : S8x128.Idx) : divf a b i = Ideal.div (a i) (b i) := rfl

/-- The result of a point. -/
theorem yOf_apply (s : Vec Ideal S8x8192 .f32) (sn : FVec Ideal S8x1 .f32)
    (hs : ∀ (g : Fin 8) (p : Fin 8192), s (ix2 g p) = (headB k x0 x1 x2 x3 x4 x5 x6 x7 x8 x9 x10).score g p.val)
    (hn : ∀ g : Fin 8, sn (ix2 g (0 : Fin 1)) = (headB k x0 x1 x2 x3 x4 x5 x6 x7 x8 x9 x10).scaled g 8192)
    (vn : Vec Ideal S1x1x128 .f32) (hv : ∀ d, vn (ix3 (0 : Fin 1) (0 : Fin 1) d) = x2 (ix3 (0 : Fin 1) k d)) (g : Fin 8) (d : Fin 128) :
    yOf s sn vn x6 x7 x8 x10 (ix3 (0 : Fin 1) g d) = (headB k x0 x1 x2 x3 x4 x5 x6 x7 x8 x9 x10).out g d := by
  refine (shapeCast_apply _ Gen.shapeCasts_S8x128_S1x8x128 (ix3 (0 : Fin 1) g d) (ix2 g d) ?_).trans ?_
  · rw [Shape.rowMajor_val_three, Shape.rowMajor_val_two]
    show g.val * 128 + d.val = (0 * 8 + g.val) * 128 + d.val
    omega
  unfold Head.out
  have hl := (column_apply (n := 128) (lVal s sn) Gen.broadcasts_S8x1_S8x128 g d).trans
    (lVal_apply (headB k x0 x1 x2 x3 x4 x5 x6 x7 x8 x9 x10) s sn hs hn g)
  refine (div_apply _ _ _).trans (congrArg₂ Ideal.div ?_ hl)
  unfold Head.num
  rw [sum_split (fun p => (headB k x0 x1 x2 x3 x4 x5 x6 x7 x8 x9 x10).weight g p * (headB k x0 x1 x2 x3 x4 x5 x6 x7 x8 x9 x10).val p d)]
  refine congrArg₂ (fun u v : EReal => u + v) (congrArg₂ (fun u v : EReal => u + v) ?_ ?_) ?_
  · refine (transpose_ix2_apply (a := 128) (b := 8) _ _ g d).trans (congrArg₂ (fun u v : EReal => u + v) ?_ ?_)
    · refine (accChunks_apply k x0 x1 x2 x3 x4 x5 x6 x7 x8 x9 x10 s sn hs hn d g 31 _ _).trans ?_
      exact (congrArg (fun u : EReal => u + _) Ideal.ofBits_zero_f32).trans (zero_add _)
    · refine (Ideal.matmul_transposedRhs_apply (M := 128) (K := 128) (N := 8) none _ _ _ d g).trans ?_
      refine (congrArg (fun u : EReal => u + _) Ideal.ofBits_zero_f32).trans ((zero_add _).trans (Finset.sum_congr rfl fun j _ => ?_))
      rw [vDeq_val k x0 x1 x2 x3 x4 x5 x6 x7 x8 x9 x10, pSlice _ s sn hs hn (n := 128) 7936 _ g j (by omega), mul_comm]
  · refine (Ideal.matmul_plain_apply (M := 8) (K := 128) (N := 128) none _ _ _ g d).trans ?_
    refine (congrArg (fun u : EReal => u + _) Ideal.ofBits_zero_f32).trans ((zero_add _).trans (Finset.sum_congr rfl fun j _ => ?_))
    rw [pSlice _ s sn hs hn (n := 128) 8064 _ g j (by omega), val_tail]
    exact congrArg (fun u : EReal => _ * u) ((tail_apply (fun x => x10 ((Rect.unit (s := S1x1x128x128) ![0, 0, 0, 0] S1x1x128x128.size Gen.inb_S1x1x128x128_S1x1x128x128_0_0_0_0).emb x)) j d).trans (congrArg x10 (emb_whole (s := S1x1x128x128) ![0, 0, 0, 0] Gen.inb_S1x1x128x128_S1x1x128x128_0_0_0_0 (ix4 (0 : Fin 1) (0 : Fin 1) j d))))
  · refine congrArg₂ (fun u v : EReal => u * v) ((column_apply (n := 128) _ _ g d).trans (pNew_apply _ s sn hs hn g)) ?_
    rw [val_new]
    exact (broadcastTo_1b_ab_apply (a := 8) (b := 128) _ _ g d).trans ((rowVal_apply vn d).trans (hv d))

/-- The row of the new keys or values a point reads. -/
theorem emb_rN (i : grid0.Coords) (d : Fin 128) (hk : i 1 = k) : (rN i).emb (ix3 (0 : Fin 1) (0 : Fin 1) d) = ix3 (0 : Fin 1) k d := by
  subst hk
  funext a
  refine Fin.ext ?_
  match a with
  | ⟨0, _⟩ => rfl
  | ⟨1, _⟩ =>
    have h4 : (i 1).val < 4 := (i 1).isLt
    show (BitVec.ofNat 32 (i 1).val).toNat + 1 * 0 = (i 1).val
    rw [BitVec.toNat_ofNat]
    omega
  | ⟨2, _⟩ => exact (Nat.zero_add _).trans (Nat.one_mul _)

/-- The kernel's result at a point of its grid is the attention of the head whose blocks the point reads. -/
theorem yT_apply (i : grid0.Coords) (hk : i 1 = k) (g : Fin 8) (d : Fin 128) :
    yT i x0 x1 x2 x3 x4 x5 x6 x7 x8 x9 x10 (ix3 (0 : Fin 1) g d) = (headB k x0 x1 x2 x3 x4 x5 x6 x7 x8 x9 x10).out g d := by
  unfold yT yOut
  refine yOf_apply k x0 x1 x2 x3 x4 x5 x6 x7 x8 x9 x10 _ _ (fun g p => ?_)
    (sNew_apply k x0 x1 x2 x3 x4 x5 x6 x7 x8 x9 x10 _ fun d => congrArg x1 (emb_rN k i d hk)) _
    (fun d => congrArg x2 (emb_rN k i d hk)) g d
  rw [hk]
  exact (congrArg _ (emb_whole (s := S8x8192) _ _ _)).trans (sAll_apply k x0 x1 x2 x3 x4 x5 x6 x7 x8 x9 x10 _ g p)

end Cert.Attn

end
-- ==== Proof.Attn.Host.lean ====
/- The arrays the kernel's host lines make of the arguments, and the head each point's blocks hold. -/
module

public import proofs.«01_k».proof.Proof.Attn.Point
public import proofs.«01_k».proof.Proof.KernelIdeal.Blocks

@[expose] public section

noncomputable section

namespace Cert.Attn

open Idealize.ShloMosaic Idealize.ShloMosaic.ValueIdx Cert.KernelIdeal Cert.KernelIdeal.Body Cert.KernelIdeal.Gen

variable (m : (ℓ : Loc nD τ sig) → Buf (Elt Ideal) ℓ) (c : Dev nD)

/-- The queries, a head's rows together. -/
theorem V_main_v0 : V m c main_v0 =
    shapeCast S16x32x128 (m ((c.tc : Thread nD τ).loc main_arg0)) shapeCasts_S16x1x4096_S16x32x128 := by
  show StableHlo.after hostOps0 _ (Proc.devRef .tc main_v0) = _
  after_results
  rfl

/-- The new keys. -/
theorem V_main_v1 : V m c main_v1 =
    shapeCast S16x4x128 (m ((c.tc : Thread nD τ).loc main_arg1)) shapeCasts_S16x1x4x128_S16x4x128 := by
  show StableHlo.after hostOps0 _ (Proc.devRef .tc main_v1) = _
  after_results
  rfl

/-- The new values. -/
theorem V_main_v2 : V m c main_v2 =
    shapeCast S16x4x128 (m ((c.tc : Thread nD τ).loc main_arg2)) shapeCasts_S16x1x4x128_S16x4x128 := by
  show StableHlo.after hostOps0 _ (Proc.devRef .tc main_v2) = _
  after_results
  rfl

/-- The packed keys, positions last. -/
theorem V_main_v3 : V m c main_v3 =
    transpose S16x4x64x8064 [0, 1, 3, 2] (m ((c.tc : Thread nD τ).loc main_arg3)) transposes_S16x4x8064x64_S16x4x64x8064_0_1_3_2 := by
  show StableHlo.after hostOps0 _ (Proc.devRef .tc main_v3) = _
  after_results

/-- The packed values, positions last. -/
theorem V_main_v4 : V m c main_v4 =
    transpose S16x4x64x8064 [0, 1, 3, 2] (m ((c.tc : Thread nD τ).loc main_arg6)) transposes_S16x4x8064x64_S16x4x64x8064_0_1_3_2 := by
  show StableHlo.after hostOps0 _ (Proc.devRef .tc main_v4) = _
  after_results

/-- The keys' scales, the heads of a group together. -/
theorem V_main_v6 : V m c main_v6 =
    shapeCast S16x1008x128 (transpose S16x252x4x128 [0, 2, 1, 3] (m ((c.tc : Thread nD τ).loc main_arg4)) transposes_S16x4x252x128_S16x252x4x128_0_2_1_3) shapeCasts_S16x252x4x128_S16x1008x128 := by
  show StableHlo.after hostOps0 _ (Proc.devRef .tc main_v6) = _
  after_results
  rfl

/-- The keys' zeros, the heads of a group together. -/
theorem V_main_v8 : V m c main_v8 =
    shapeCast S16x1008x128 (transpose S16x252x4x128 [0, 2, 1, 3] (m ((c.tc : Thread nD τ).loc main_arg5)) transposes_S16x4x252x128_S16x252x4x128_0_2_1_3) shapeCasts_S16x252x4x128_S16x1008x128 := by
  show StableHlo.after hostOps0 _ (Proc.devRef .tc main_v8) = _
  after_results
  rfl

/-- The values' scales, positions last. -/
theorem V_main_v9 : V m c main_v9 =
    transpose S16x4x4x8064 [0, 1, 3, 2] (m ((c.tc : Thread nD τ).loc main_arg7)) transposes_S16x4x8064x4_S16x4x4x8064_0_1_3_2 := by
  show StableHlo.after hostOps0 _ (Proc.devRef .tc main_v9) = _
  after_results

/-- The values' zeros, positions last. -/
theorem V_main_v10 : V m c main_v10 =
    transpose S16x4x4x8064 [0, 1, 3, 2] (m ((c.tc : Thread nD τ).loc main_arg8)) transposes_S16x4x8064x4_S16x4x4x8064_0_1_3_2 := by
  show StableHlo.after hostOps0 _ (Proc.devRef .tc main_v10) = _
  after_results

/-- A head's query rows among a batch's. -/
theorem rows_apply (x : Vec Ideal S16x1x4096 .f32) (b : Fin 16) (h : Fin 4) (g : Fin 8) (d : Fin 128) :
    shapeCast S16x32x128 x shapeCasts_S16x1x4096_S16x32x128 (ix3 b (⟨8 * h.val + g.val, by omega⟩ : Fin 32) d)
      = x (ix3 b (0 : Fin 1) (⟨1024 * h.val + 128 * g.val + d.val, by omega⟩ : Fin 4096)) := by
  refine shapeCast_apply _ _ _ _ ?_
  rw [Shape.rowMajor_val_three, Shape.rowMajor_val_three]
  show (b.val * 1 + 0) * 4096 + (1024 * h.val + 128 * g.val + d.val) = (b.val * 32 + (8 * h.val + g.val)) * 128 + d.val
  omega

/-- A head's new row among a batch's. -/
theorem new_apply (x : Vec Ideal S16x1x4x128 .f32) (b : Fin 16) (h : Fin 4) (d : Fin 128) :
    shapeCast S16x4x128 x shapeCasts_S16x1x4x128_S16x4x128 (ix3 b h d) = x (ix4 b (0 : Fin 1) h d) := by
  refine shapeCast_apply _ _ _ _ ?_
  rw [Shape.rowMajor_val_four, Shape.rowMajor_val_three]
  show ((b.val * 1 + 0) * 4 + h.val) * 128 + d.val = (b.val * 4 + h.val) * 128 + d.val
  omega

/-- The last two axes exchanged. -/
theorem swap_last {α : Type} {p n : ℕ} (x : (⟨4, ![16, 4, p, n]⟩ : Shape).Idx → α)
    (hT : (⟨4, ![16, 4, p, n]⟩ : Shape).Transposes [0, 1, 3, 2] ⟨4, ![16, 4, n, p]⟩) (b : Fin 16) (h : Fin 4) (r : Fin n) (q : Fin p) :
    transpose ⟨4, ![16, 4, n, p]⟩ [0, 1, 3, 2] x hT (ix4 b h r q) = x (ix4 b h q r) := by
  refine transpose_apply _ _ _ _ _ fun a => ?_
  match a with
  | ⟨0, _⟩ => rfl
  | ⟨1, _⟩ => rfl
  | ⟨2, _⟩ => rfl
  | ⟨3, _⟩ => rfl

/-- A group's row of a head among the rows of all heads. -/
theorem group_apply (x : Vec Ideal S16x4x252x128 .bf16) (b : Fin 16) (h : Fin 4) (j : Fin 252) (d : Fin 128) :
    shapeCast S16x1008x128 (transpose S16x252x4x128 [0, 2, 1, 3] x transposes_S16x4x252x128_S16x252x4x128_0_2_1_3)
        shapeCasts_S16x252x4x128_S16x1008x128 (ix3 b (⟨4 * j.val + h.val, by omega⟩ : Fin 1008) d)
      = x (ix4 b h j d) := by
  refine (shapeCast_apply _ _ _ (ix4 b j h d) ?_).trans ?_
  · rw [Shape.rowMajor_val_four, Shape.rowMajor_val_three]
    show ((b.val * 252 + j.val) * 4 + h.val) * 128 + d.val = (b.val * 1008 + (4 * j.val + h.val)) * 128 + d.val
    omega
  refine transpose_apply _ _ _ _ _ fun a => ?_
  match a with
  | ⟨0, _⟩ => rfl
  | ⟨1, _⟩ => rfl
  | ⟨2, _⟩ => rfl
  | ⟨3, _⟩ => rfl

/-- The arguments' head at a batch and a head. -/
def argHead (b : Fin 16) (h : Fin 4) : Head :=
  headOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) b h

/-- Heads of the same parts are the same. -/
theorem head_ext (H H' : Head) (h0 : ∀ g d, H.q g d = H'.q g d) (h1 : ∀ d, H.kn d = H'.kn d) (h2 : ∀ d, H.vn d = H'.vn d)
    (h3 : ∀ p r, H.kc p r = H'.kc p r) (h4 : ∀ j d, H.ks j d = H'.ks j d) (h5 : ∀ j d, H.kz j d = H'.kz j d)
    (h6 : ∀ p r, H.vc p r = H'.vc p r) (h7 : ∀ p j, H.vs p j = H'.vs p j) (h8 : ∀ p j, H.vz p j = H'.vz p j)
    (h9 : ∀ p d, H.kt p d = H'.kt p d) (h10 : ∀ p d, H.vt p d = H'.vt p d) : H = H' := by
  obtain ⟨a0, a1, a2, a3, a4, a5, a6, a7, a8, a9, a10⟩ := H
  obtain ⟨b0, b1, b2, b3, b4, b5, b6, b7, b8, b9, b10⟩ := H'
  obtain rfl : a0 = b0 := funext₂ h0
  obtain rfl : a1 = b1 := funext h1
  obtain rfl : a2 = b2 := funext h2
  obtain rfl : a3 = b3 := funext₂ h3
  obtain rfl : a4 = b4 := funext₂ h4
  obtain rfl : a5 = b5 := funext₂ h5
  obtain rfl : a6 = b6 := funext₂ h6
  obtain rfl : a7 = b7 := funext₂ h7
  obtain rfl : a8 = b8 := funext₂ h8
  obtain rfl : a9 = b9 := funext₂ h9
  obtain rfl : a10 = b10 := funext₂ h10
  rfl

/-- The head a point's blocks hold is the arguments' head of the point's batch and head. -/
theorem blocks_head (t : Fin cfg0.N) :
    headB (hd t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) = argHead m c (bat t) (hd t) := by
  refine head_ext _ _ (fun g d => ?_) (fun d => ?_) (fun d => ?_) (fun p r => ?_) (fun j d => ?_) (fun j d => ?_) (fun p r => ?_)
    (fun p j => ?_) (fun p j => ?_) (fun p d => ?_) (fun p d => ?_)
  · exact (congrFun (iblk0 m c t) _).trans ((congrFun (V_main_v0 m c) _).trans (rows_apply _ (bat t) (hd t) g d))
  · exact (congrFun (iblk1 m c t) _).trans ((congrFun (V_main_v1 m c) _).trans (new_apply _ (bat t) (hd t) d))
  · exact (congrFun (iblk2 m c t) _).trans ((congrFun (V_main_v2 m c) _).trans (new_apply _ (bat t) (hd t) d))
  · exact (congrFun (iblk3 m c t) _).trans ((congrFun (V_main_v3 m c) _).trans (swap_last (p := 8064) (n := 64) _ _ (bat t) (hd t) r p))
  · exact (congrFun (iblk4 m c t) _).trans ((congrFun (V_main_v6 m c) _).trans (group_apply _ (bat t) (hd t) j d))
  · exact (congrFun (iblk5 m c t) _).trans ((congrFun (V_main_v8 m c) _).trans (group_apply _ (bat t) (hd t) j d))
  · exact (congrFun (iblk6 m c t) _).trans ((congrFun (V_main_v4 m c) _).trans (swap_last (p := 8064) (n := 64) _ _ (bat t) (hd t) r p))
  · exact (congrFun (iblk7 m c t) _).trans ((congrFun (V_main_v9 m c) _).trans (swap_last (p := 8064) (n := 4) _ _ (bat t) (hd t) j p))
  · exact (congrFun (iblk8 m c t) _).trans ((congrFun (V_main_v10 m c) _).trans (swap_last (p := 8064) (n := 4) _ _ (bat t) (hd t) j p))
  · exact (congrFun (iblk9 m c t) _).trans (congrFun (V_main_arg9 m c) _)
  · exact (congrFun (iblk10 m c t) _).trans (congrFun (V_main_arg10 m c) _)

end Cert.Attn

end
-- ==== Proof.Attn.Arrays.lean ====
/- The kernel's output arrays after its last point, and its results. -/
module

public import proofs.«01_k».proof.Proof.Attn.Host
public import proofs.«01_k».proof.Proof.KernelIdeal.Run

@[expose] public section

noncomputable section

namespace Cert.Attn

open Idealize.ShloMosaic Idealize.ShloMosaic.ValueIdx
open Cert.KernelIdeal Cert.KernelIdeal.Body Cert.KernelIdeal.Gen

variable (m : (ℓ : Loc nD τ sig) → Buf (Elt Ideal) ℓ) (c : Dev nD)

/-- The point of a batch and a head. -/
def pt (b : Fin 16) (h : Fin 4) : Fin cfg0.N := ⟨4 * b.val + h.val, lt_of_lt_of_eq (by omega : 4 * b.val + h.val < 64) (show cfg0.N = 64 from N_0).symm⟩

theorem bat_pt (b : Fin 16) (h : Fin 4) : bat (pt b h) = b := Fin.ext (by show (4 * b.val + h.val) / 4 = b.val; omega)
theorem hd_pt (b : Fin 16) (h : Fin 4) : hd (pt b h) = h := Fin.ext (by show (4 * b.val + h.val) % 4 = h.val; omega)

/-- An index of rank 3 from its coordinates. -/
theorem ix3_eta {n0 n1 n2 : ℕ} (x : (⟨3, ![n0, n1, n2]⟩ : Shape).Idx) : ∃ a b d, x = ix3 a b d :=
  ⟨x 0, x 1, x 2, funext fun a => match a with
    | ⟨0, _⟩ => rfl
    | ⟨1, _⟩ => rfl
    | ⟨2, _⟩ => rfl⟩

/-- The first output: at a batch, a head's query row and a lane, the head's attention. -/
def G11 : S16x32x128.Idx → EReal := fun x =>
  (argHead m c (x 0) ⟨(x 1).val / 8, by have h : (x 1).val < 32 := (x 1).isLt; omega⟩).out ⟨(x 1).val % 8, Nat.mod_lt _ (by decide)⟩ (x 2)

/-- The first output at a head's query row. -/
theorem G11_apply (b : Fin 16) (h : Fin 4) (g : Fin 8) (d : Fin 128) :
    G11 m c (ix3 b (⟨8 * h.val + g.val, by omega⟩ : Fin 32) d) = (argHead m c b h).out g d := by
  have e1 : (⟨(8 * h.val + g.val) / 8, by omega⟩ : Fin 4) = h := Fin.ext (by show (8 * h.val + g.val) / 8 = h.val; omega)
  have e2 : (⟨(8 * h.val + g.val) % 8, Nat.mod_lt _ (by decide)⟩ : Fin 8) = g := Fin.ext (by show (8 * h.val + g.val) % 8 = g.val; omega)
  show (argHead m c b ⟨(8 * h.val + g.val) / 8, _⟩).out ⟨(8 * h.val + g.val) % 8, _⟩ d = _
  rw [e1, e2]

/-- The second output: the new keys. -/
def G12 : S16x4x128.Idx → EReal := shapeCast S16x4x128 (m ((c.tc : Thread nD τ).loc main_arg1)) shapeCasts_S16x1x4x128_S16x4x128

/-- The third output: the new values. -/
def G13 : S16x4x128.Idx → EReal := shapeCast S16x4x128 (m ((c.tc : Thread nD τ).loc main_arg2)) shapeCasts_S16x1x4x128_S16x4x128

/-- The place of a point's block in the first output. -/
theorem emb11 (t : Fin cfg0.N) (g : Fin 8) (d : Fin 128) :
    ((cfg0.win 11).blk t).view.emb (ix3 (0 : Fin 1) g d : S1x8x128.Idx) = (ix3 (bat t) (⟨8 * (hd t).val + g.val, by omega⟩ : Fin 32) d : S16x32x128.Idx) := by
  funext a
  apply Fin.ext
  match a with
  | ⟨0, _⟩ => show (BitVec.ofNat 32 (grid0.coords t 0).val).toNat * 1 + 1 * 0 = (bat t).val; rw [idx0]; omega
  | ⟨1, _⟩ => show (BitVec.ofNat 32 (grid0.coords t 1).val).toNat * 8 + 1 * g.val = 8 * (hd t).val + g.val; rw [idx1]; omega
  | ⟨2, _⟩ => show 0 * 128 + 1 * d.val = d.val; omega

/-- The place of a point's block in the second output. -/
theorem emb12 (t : Fin cfg0.N) (h : Fin 4) (d : Fin 128) :
    ((cfg0.win 12).blk t).view.emb (ix3 (0 : Fin 1) h d : S1x4x128.Idx) = (ix3 (bat t) h d : S16x4x128.Idx) := by
  funext a
  apply Fin.ext
  match a with
  | ⟨0, _⟩ => show (BitVec.ofNat 32 (grid0.coords t 0).val).toNat * 1 + 1 * 0 = (bat t).val; rw [idx0]; omega
  | ⟨1, _⟩ => show 0 * 4 + 1 * h.val = h.val; omega
  | ⟨2, _⟩ => show 0 * 128 + 1 * d.val = d.val; omega

/-- The place of a point's block in the third output. -/
theorem emb13 (t : Fin cfg0.N) (h : Fin 4) (d : Fin 128) :
    ((cfg0.win 13).blk t).view.emb (ix3 (0 : Fin 1) h d : S1x4x128.Idx) = (ix3 (bat t) h d : S16x4x128.Idx) := by
  funext a
  apply Fin.ext
  match a with
  | ⟨0, _⟩ => show (BitVec.ofNat 32 (grid0.coords t 0).val).toNat * 1 + 1 * 0 = (bat t).val; rw [idx0]; omega
  | ⟨1, _⟩ => show 0 * 4 + 1 * h.val = h.val; omega
  | ⟨2, _⟩ => show 0 * 128 + 1 * d.val = d.val; omega

/-- What a point leaves in the first output's block. -/
theorem yAt_apply (t : Fin cfg0.N) (g : Fin 8) (d : Fin 128) :
    yAt m c t (ix3 (0 : Fin 1) g d) = (argHead m c (bat t) (hd t)).out g d := by
  rw [← blocks_head m c t]
  exact yT_apply (hd t) _ _ _ _ _ _ _ _ _ _ _ (grid0.coords t) (Fin.ext (coords1 t)) g d

/-- New rows, rounded, are themselves. -/
theorem newVal_apply (x : Vec Ideal S1x4x128 .f32) (h : Fin 4) (d : Fin 128) :
    newVal x (ix3 (0 : Fin 1) h d) = x (ix3 (0 : Fin 1) h d) := by
  refine (shapeCast_apply _ _ _ (ix2 h d) ?_).trans (shapeCast_apply x _ (ix2 h d) (ix3 (0 : Fin 1) h d) ?_)
  · rw [Shape.rowMajor_val_three, Shape.rowMajor_val_two]
    show h.val * 128 + d.val = (0 * 4 + h.val) * 128 + d.val
    omega
  · rw [Shape.rowMajor_val_three, Shape.rowMajor_val_two]
    show (0 * 4 + h.val) * 128 + d.val = h.val * 128 + d.val
    omega

/-- The first output after the last point. -/
theorem arr11 : (dats m 0 c).arrAt 11 cfg0.N = G11 m c := by
  refine (dats m 0 c).arrAt_eq_of_cover 11 (G11 m c) (fun t _ => ?_) (fun i => ?_)
  · funext x
    obtain ⟨a, g, d, rfl⟩ := ix3_eta (n0 := 1) (n1 := 8) (n2 := 128) x
    obtain rfl : a = 0 := Subsingleton.elim _ _
    have h1 : (dats m 0 c).flushed 11 t (ix3 (0 : Fin 1) g d : S1x8x128.Idx) = yAt m c t (ix3 (0 : Fin 1) g d) :=
      congrFun (after11 m c t) (ix3 (0 : Fin 1) g d)
    have h2 : yAt m c t (ix3 (0 : Fin 1) g d) = G11 m c (((cfg0.win 11).blk t).view.emb (ix3 (0 : Fin 1) g d : S1x8x128.Idx)) :=
      (yAt_apply m c t g d).trans ((G11_apply m c (bat t) (hd t) g d).symm.trans (congrArg (G11 m c) (emb11 t g d)).symm)
    rw [View.read_apply]
    exact (h1.trans h2).trans (cast_eq rfl _).symm
  · obtain ⟨b, r, d, rfl⟩ := ix3_eta (n0 := 16) (n1 := 32) (n2 := 128) i
    refine ⟨pt b ⟨r.val / 8, by omega⟩, flush0_11 _, ?_⟩
    have e := emb11 (pt b ⟨r.val / 8, by omega⟩) ⟨r.val % 8, Nat.mod_lt _ (by decide)⟩ d
    have er : (⟨8 * (hd (pt b ⟨r.val / 8, by omega⟩)).val + r.val % 8, by omega⟩ : Fin 32) = r :=
      Fin.ext (by show 8 * ((4 * b.val + r.val / 8) % 4) + r.val % 8 = r.val; omega)
    have e' := e.trans (congrArg₂ (fun u v => (ix3 u v d : S16x32x128.Idx)) (bat_pt b _) er)
    rw [← e']
    exact View.emb_mem_set _ _

/-- The second output after the last point. -/
theorem arr12 : (dats m 0 c).arrAt 12 cfg0.N = G12 m c := by
  refine (dats m 0 c).arrAt_eq_of_cover 12 (G12 m c) (fun t _ => ?_) (fun i => ?_)
  · funext x
    obtain ⟨a, h, d, rfl⟩ := ix3_eta (n0 := 1) (n1 := 4) (n2 := 128) x
    obtain rfl : a = 0 := Subsingleton.elim _ _
    have h1 : (dats m 0 c).flushed 12 t (ix3 (0 : Fin 1) h d : S1x4x128.Idx) = newVal (iblk m c 1 t) (ix3 (0 : Fin 1) h d) :=
      congrFun (after12 m c t) (ix3 (0 : Fin 1) h d)
    refine h1.trans ((newVal_apply _ h d).trans ((congrFun (iblk1 m c t) _).trans ((congrFun (V_main_v1 m c) _).trans ?_)))
    rw [View.read_apply]
    exact (congrArg (G12 m c) (emb12 t h d)).symm
  · obtain ⟨b, h, d, rfl⟩ := ix3_eta (n0 := 16) (n1 := 4) (n2 := 128) i
    refine ⟨pt b 3, (flush0_12 _).mpr (by show (4 * b.val + 3) % 4 = 3; omega), ?_⟩
    have e' := (emb12 (pt b 3) h d).trans (congrArg (fun u => (ix3 u h d : S16x4x128.Idx)) (bat_pt b 3))
    rw [← e']
    exact View.emb_mem_set _ _

/-- The third output after the last point. -/
theorem arr13 : (dats m 0 c).arrAt 13 cfg0.N = G13 m c := by
  refine (dats m 0 c).arrAt_eq_of_cover 13 (G13 m c) (fun t _ => ?_) (fun i => ?_)
  · funext x
    obtain ⟨a, h, d, rfl⟩ := ix3_eta (n0 := 1) (n1 := 4) (n2 := 128) x
    obtain rfl : a = 0 := Subsingleton.elim _ _
    have h1 : (dats m 0 c).flushed 13 t (ix3 (0 : Fin 1) h d : S1x4x128.Idx) = newVal (iblk m c 2 t) (ix3 (0 : Fin 1) h d) :=
      congrFun (after13 m c t) (ix3 (0 : Fin 1) h d)
    refine h1.trans ((newVal_apply _ h d).trans ((congrFun (iblk2 m c t) _).trans ((congrFun (V_main_v2 m c) _).trans ?_)))
    rw [View.read_apply]
    exact (congrArg (G13 m c) (emb13 t h d)).symm
  · obtain ⟨b, h, d, rfl⟩ := ix3_eta (n0 := 16) (n1 := 4) (n2 := 128) i
    refine ⟨pt b 3, (flush0_13 _).mpr (by show (4 * b.val + 3) % 4 = 3; omega), ?_⟩
    have e' := (emb13 (pt b 3) h d).trans (congrArg (fun u => (ix3 u h d : S16x4x128.Idx)) (bat_pt b 3))
    rw [← e']
    exact View.emb_mem_set _ _

/-- The first result. -/
theorem res12 : Pipeline.afterTail₀ cfgs (dats m) 0 (V0 m) [hostOps1] c main_v12
    = shapeCast S16x1x4096 (G11 m c) shapeCasts_S16x32x128_S16x1x4096 := by
  rw [← arr11 m c, ← Pipeline.withArrays_arr spec0 (by decide) c (V0 m c) (fun w => (dats m 0 c).arrAt w cfg0.N) 11]
  show StableHlo.after hostOps1 _ (Proc.devRef .tc main_v12) = _
  after_results
  rfl

/-- The second result. -/
theorem res13 : Pipeline.afterTail₀ cfgs (dats m) 0 (V0 m) [hostOps1] c main_v13
    = shapeCast S16x4x1x128 (G12 m c) shapeCasts_S16x4x128_S16x4x1x128 := by
  rw [← arr12 m c, ← Pipeline.withArrays_arr spec0 (by decide) c (V0 m c) (fun w => (dats m 0 c).arrAt w cfg0.N) 12]
  show StableHlo.after hostOps1 _ (Proc.devRef .tc main_v13) = _
  after_results
  rfl

/-- The third result. -/
theorem res14 : Pipeline.afterTail₀ cfgs (dats m) 0 (V0 m) [hostOps1] c main_v14
    = shapeCast S16x4x1x128 (G13 m c) shapeCasts_S16x4x128_S16x4x1x128 := by
  rw [← arr13 m c, ← Pipeline.withArrays_arr spec0 (by decide) c (V0 m c) (fun w => (dats m 0 c).arrAt w cfg0.N) 13]
  show StableHlo.after hostOps1 _ (Proc.devRef .tc main_v14) = _
  after_results
  rfl

end Cert.Attn

end
-- ==== Proof.Attn.Ref.lean ====
/- The reference's run, read as the attention of each head. -/
module

public import proofs.«01_k».proof.Proof.Gen.ReferenceIdeal.Read
public import proofs.«01_k».proof.Proof.Attn.Spec
public import Idealize.ShloMosaic.Lib.KernelVsHost
public import Idealize.ShloMosaic.Lib.WordCmp

@[expose] public section

noncomputable section

namespace Cert.Attn

open Idealize.ShloMosaic Idealize.ShloMosaic.ValueIdx Cert.ReferenceIdeal Cert.ReferenceIdeal.Read
open Cert.ReferenceIdeal.Gen (reducesTo_S16x4x8x1x8193_S16x4x8x1_d4 h_S_)
open scoped BigOperators

variable (x0 : (⟨S16x1x4096, .f32⟩ : BufTy).Contents (Elt Ideal)) (x1 x2 : (⟨S16x1x4x128, .f32⟩ : BufTy).Contents (Elt Ideal))
  (x3 : (⟨S16x4x8064x64, .i8⟩ : BufTy).Contents (Elt Ideal)) (x4 x5 : (⟨S16x4x252x128, .bf16⟩ : BufTy).Contents (Elt Ideal))
  (x6 : (⟨S16x4x8064x64, .i8⟩ : BufTy).Contents (Elt Ideal)) (x7 x8 : (⟨S16x4x8064x4, .bf16⟩ : BufTy).Contents (Elt Ideal))
  (x9 x10 : (⟨S16x4x128x128, .bf16⟩ : BufTy).Contents (Elt Ideal)) (b : Fin 16) (h : Fin 4)

/-- Two places that differ only along the third axis. -/
theorem piece_axes {n0 n1 n2 m2 n3 : ℕ} (b : Fin n0) (h : Fin n1) (q : Fin n2) (p : Fin m2) (d : Fin n3) :
    ∀ a : Fin 4, a ≠ 2 → (ix4 b h q d a).val = (ix4 b h p d a).val := fun a => match a with
  | ⟨0, _⟩ => fun _ => rfl
  | ⟨1, _⟩ => fun _ => rfl
  | ⟨2, _⟩ => fun hn => absurd rfl hn
  | ⟨3, _⟩ => fun _ => rfl

/-- An index of rank 4 from its coordinates' values. -/
theorem ext4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun k => Fin.ext (match k with
    | ⟨0, _⟩ => h0
    | ⟨1, _⟩ => h1
    | ⟨2, _⟩ => h2
    | ⟨3, _⟩ => h3)

/-- An index of rank 5 from its coordinates' values. -/
theorem ext5 {n0 n1 n2 n3 n4 : ℕ} (i : (⟨5, ![n0, n1, n2, n3, n4]⟩ : Shape).Idx) (a : Fin n0) (b : Fin n1) (c : Fin n2) (d : Fin n3)
    (e : Fin n4) (h0 : (i 0).val = a.val) (h1 : (i 1).val = b.val) (h2 : (i 2).val = c.val) (h3 : (i 3).val = d.val)
    (h4 : (i 4).val = e.val) : i = ix5 a b c d e :=
  funext fun k => Fin.ext (match k with
    | ⟨0, _⟩ => h0
    | ⟨1, _⟩ => h1
    | ⟨2, _⟩ => h2
    | ⟨3, _⟩ => h3
    | ⟨4, _⟩ => h4)

/-- A code's place among the half bytes. -/
theorem e15 (p : Fin 8064) (d : Fin 128) : idx_main_v15 (ix4 b h p d) = ix5 b h p (⟨d.val / 2, by omega⟩ : Fin 64) (⟨d.val % 2, by omega⟩ : Fin 2) :=
  ext5 _ _ _ _ _ _ (show (((b.val * 4 + h.val) * 8064 + p.val) * 128 + d.val) / 4128768 = b.val by omega) (show (((b.val * 4 + h.val) * 8064 + p.val) * 128 + d.val) / 1032192 % 4 = h.val by omega) (show (((b.val * 4 + h.val) * 8064 + p.val) * 128 + d.val) / 128 % 8064 = p.val by omega) (show (((b.val * 4 + h.val) * 8064 + p.val) * 128 + d.val) / 2 % 64 = d.val / 2 by omega) (show (((b.val * 4 + h.val) * 8064 + p.val) * 128 + d.val) % 2 = d.val % 2 by omega)

/-- A code's place among the half bytes. -/
theorem e34 (p : Fin 8064) (d : Fin 128) : idx_main_v34 (ix4 b h p d) = ix5 b h p (⟨d.val / 2, by omega⟩ : Fin 64) (⟨d.val % 2, by omega⟩ : Fin 2) :=
  ext5 _ _ _ _ _ _ (show (((b.val * 4 + h.val) * 8064 + p.val) * 128 + d.val) / 4128768 = b.val by omega) (show (((b.val * 4 + h.val) * 8064 + p.val) * 128 + d.val) / 1032192 % 4 = h.val by omega) (show (((b.val * 4 + h.val) * 8064 + p.val) * 128 + d.val) / 128 % 8064 = p.val by omega) (show (((b.val * 4 + h.val) * 8064 + p.val) * 128 + d.val) / 2 % 64 = d.val / 2 by omega) (show (((b.val * 4 + h.val) * 8064 + p.val) * 128 + d.val) % 2 = d.val % 2 by omega)

/-- A key's place among the groups of 32 positions. -/
theorem e24 (p : Fin 8064) (d : Fin 128) : idx_main_v24 (ix4 b h p d) = ix5 b h (⟨p.val / 32, by omega⟩ : Fin 252) (⟨p.val % 32, by omega⟩ : Fin 32) d :=
  ext5 _ _ _ _ _ _ (show (((b.val * 4 + h.val) * 8064 + p.val) * 128 + d.val) / 4128768 = b.val by omega) (show (((b.val * 4 + h.val) * 8064 + p.val) * 128 + d.val) / 1032192 % 4 = h.val by omega) (show (((b.val * 4 + h.val) * 8064 + p.val) * 128 + d.val) / 4096 % 252 = p.val / 32 by omega) (show (((b.val * 4 + h.val) * 8064 + p.val) * 128 + d.val) / 128 % 32 = p.val % 32 by omega) (show (((b.val * 4 + h.val) * 8064 + p.val) * 128 + d.val) % 128 = d.val by omega)

/-- A value's place among the groups of 32 lanes. -/
theorem e43 (p : Fin 8064) (d : Fin 128) : idx_main_v43 (ix4 b h p d) = ix5 b h p (⟨d.val / 32, by omega⟩ : Fin 4) (⟨d.val % 32, by omega⟩ : Fin 32) :=
  ext5 _ _ _ _ _ _ (show (((b.val * 4 + h.val) * 8064 + p.val) * 128 + d.val) / 4128768 = b.val by omega) (show (((b.val * 4 + h.val) * 8064 + p.val) * 128 + d.val) / 1032192 % 4 = h.val by omega) (show (((b.val * 4 + h.val) * 8064 + p.val) * 128 + d.val) / 128 % 8064 = p.val by omega) (show (((b.val * 4 + h.val) * 8064 + p.val) * 128 + d.val) / 32 % 4 = d.val / 32 by omega) (show (((b.val * 4 + h.val) * 8064 + p.val) * 128 + d.val) % 32 = d.val % 32 by omega)

/-- And back. -/
theorem e17 (p : Fin 8064) (d : Fin 128) : idx_main_v17 (ix5 b h (⟨p.val / 32, by omega⟩ : Fin 252) (⟨p.val % 32, by omega⟩ : Fin 32) d) = ix4 b h p d :=
  ext4 _ _ _ _ _ (show ((((b.val * 4 + h.val) * 252 + p.val / 32) * 32 + p.val % 32) * 128 + d.val) / 4128768 = b.val by omega) (show ((((b.val * 4 + h.val) * 252 + p.val / 32) * 32 + p.val % 32) * 128 + d.val) / 1032192 % 4 = h.val by omega) (show ((((b.val * 4 + h.val) * 252 + p.val / 32) * 32 + p.val % 32) * 128 + d.val) / 128 % 8064 = p.val by omega) (show ((((b.val * 4 + h.val) * 252 + p.val / 32) * 32 + p.val % 32) * 128 + d.val) % 128 = d.val by omega)

/-- And back. -/
theorem e36 (p : Fin 8064) (d : Fin 128) : idx_main_v36 (ix5 b h p (⟨d.val / 32, by omega⟩ : Fin 4) (⟨d.val % 32, by omega⟩ : Fin 32)) = ix4 b h p d :=
  ext4 _ _ _ _ _ (show ((((b.val * 4 + h.val) * 8064 + p.val) * 4 + d.val / 32) * 32 + d.val % 32) / 4128768 = b.val by omega) (show ((((b.val * 4 + h.val) * 8064 + p.val) * 4 + d.val / 32) * 32 + d.val % 32) / 1032192 % 4 = h.val by omega) (show ((((b.val * 4 + h.val) * 8064 + p.val) * 4 + d.val / 32) * 32 + d.val % 32) / 128 % 8064 = p.val by omega) (show ((((b.val * 4 + h.val) * 8064 + p.val) * 4 + d.val / 32) * 32 + d.val % 32) % 128 = d.val by omega)

/-- The two codes of a byte of the keys, side by side. -/
theorem k_code (p : Fin 8064) (r : Fin 64) (e : Fin 2) :
    val_main_v14 (F := Ideal) x3 (ix5 b h p r e) = nibble (x3 (ix4 b h p r)) e.val := by
  unfold val_main_v14
  match e with
  | ⟨0, _⟩ =>
    refine (concatenate_pair_apply_left (t := S16x4x8064x64x2) (s₁ := S16x4x8064x64x1) (s₂ := S16x4x8064x64x1) 4 (val_main_v12 (F := Ideal) x3) (val_main_v13 (F := Ideal) x3) _ (ix5 b h p r _) rfl (ix5 b h p r 0) (fun a => match a with
        | ⟨0, _⟩ => rfl
        | ⟨1, _⟩ => rfl
        | ⟨2, _⟩ => rfl
        | ⟨3, _⟩ => rfl
        | ⟨4, _⟩ => rfl)).trans ?_
    rw [val_main_v12_apply, show idx_main_v12 (ix5 b h p r 0) = ix4 b h p r from ext4 _ _ _ _ _ rfl rfl rfl rfl]
    rfl
  | ⟨1, _⟩ =>
    refine (concatenate_pair_apply_right (t := S16x4x8064x64x2) (s₁ := S16x4x8064x64x1) (s₂ := S16x4x8064x64x1) 4 (val_main_v12 (F := Ideal) x3) (val_main_v13 (F := Ideal) x3) _ (ix5 b h p r _) rfl rfl (ix5 b h p r 0) (fun a => match a with
        | ⟨0, _⟩ => fun _ => rfl
        | ⟨1, _⟩ => fun _ => rfl
        | ⟨2, _⟩ => fun _ => rfl
        | ⟨3, _⟩ => fun _ => rfl
        | ⟨4, _⟩ => fun hn => absurd rfl hn) rfl).trans ?_
    rw [val_main_v13_apply, show idx_main_v13 (ix5 b h p r 0) = ix4 b h p r from ext4 _ _ _ _ _ rfl rfl rfl rfl]
    exact shrsi_byte .host _

/-- The two codes of a byte of the values, side by side. -/
theorem v_code (p : Fin 8064) (r : Fin 64) (e : Fin 2) :
    val_main_v33 (F := Ideal) x6 (ix5 b h p r e) = nibble (x6 (ix4 b h p r)) e.val := by
  unfold val_main_v33
  match e with
  | ⟨0, _⟩ =>
    refine (concatenate_pair_apply_left (t := S16x4x8064x64x2) (s₁ := S16x4x8064x64x1) (s₂ := S16x4x8064x64x1) 4 (val_main_v31 (F := Ideal) x6) (val_main_v32 (F := Ideal) x6) _ (ix5 b h p r _) rfl (ix5 b h p r 0) (fun a => match a with
        | ⟨0, _⟩ => rfl
        | ⟨1, _⟩ => rfl
        | ⟨2, _⟩ => rfl
        | ⟨3, _⟩ => rfl
        | ⟨4, _⟩ => rfl)).trans ?_
    rw [val_main_v31_apply, show idx_main_v31 (ix5 b h p r 0) = ix4 b h p r from ext4 _ _ _ _ _ rfl rfl rfl rfl]
    rfl
  | ⟨1, _⟩ =>
    refine (concatenate_pair_apply_right (t := S16x4x8064x64x2) (s₁ := S16x4x8064x64x1) (s₂ := S16x4x8064x64x1) 4 (val_main_v31 (F := Ideal) x6) (val_main_v32 (F := Ideal) x6) _ (ix5 b h p r _) rfl rfl (ix5 b h p r 0) (fun a => match a with
        | ⟨0, _⟩ => fun _ => rfl
        | ⟨1, _⟩ => fun _ => rfl
        | ⟨2, _⟩ => fun _ => rfl
        | ⟨3, _⟩ => fun _ => rfl
        | ⟨4, _⟩ => fun hn => absurd rfl hn) rfl).trans ?_
    rw [val_main_v32_apply, show idx_main_v32 (ix5 b h p r 0) = ix4 b h p r from ext4 _ _ _ _ _ rfl rfl rfl rfl]
    exact shrsi_byte .host _

/-- The unpacked keys. -/
theorem k_val (p : Fin 8064) (d : Fin 128) :
    val_main_v24 (F := Ideal) x3 x4 x5 (ix4 b h p d) = (headOf x0 x1 x2 x3 x4 x5 x6 x7 x8 x9 x10 b h).keyC p d := by
  rw [val_main_v24_apply, val_main_v23_apply, val_main_v20_apply, val_main_v17_apply, val_main_v16_apply, val_main_v15_apply, e24, e17, e15, k_code,
    val_main_v19_apply, val_main_v18_apply, val_main_v22_apply, val_main_v21_apply]
  refine congrArg₂ (fun u v : EReal => u + v) (congrArg₂ (fun u v : EReal => u * v) rfl (congrArg x4 ?_)) (congrArg x5 ?_)
  · exact ext4 _ _ _ _ _ rfl rfl rfl rfl
  · exact ext4 _ _ _ _ _ rfl rfl rfl rfl

/-- The unpacked values. -/
theorem v_val (p : Fin 8064) (d : Fin 128) :
    val_main_v43 (F := Ideal) x6 x7 x8 (ix4 b h p d) = (headOf x0 x1 x2 x3 x4 x5 x6 x7 x8 x9 x10 b h).valC p d := by
  rw [val_main_v43_apply, val_main_v42_apply, val_main_v39_apply, val_main_v36_apply, val_main_v35_apply, val_main_v34_apply, e43, e36, e34, v_code,
    val_main_v38_apply, val_main_v37_apply, val_main_v41_apply, val_main_v40_apply]
  refine congrArg₂ (fun u v : EReal => u + v) (congrArg₂ (fun u v : EReal => u * v) rfl (congrArg x7 ?_)) (congrArg x8 ?_)
  · exact ext4 _ _ _ _ _ rfl rfl rfl rfl
  · exact ext4 _ _ _ _ _ rfl rfl rfl rfl

set_option maxRecDepth 20000 in
/-- The keys of every position. -/
theorem key_val (p : Fin 8193) (d : Fin 128) :
    val_main_v25 (F := Ideal) x1 x3 x4 x5 x9 (ix4 b h p d) = (headOf x0 x1 x2 x3 x4 x5 x6 x7 x8 x9 x10 b h).key p.val d := by
  unfold val_main_v25 Head.key
  split
  · rename_i hp
    refine (concatenate_apply_piece (2 : Fin S16x4x8193x128.rank) [⟨S16x4x8064x128, val_main_v24 (F := Ideal) x3 x4 x5⟩, ⟨S16x4x128x128, x9⟩, ⟨S16x4x1x128, val_main_v4 (F := Ideal) x1⟩] _ (ix4 b h p d) 0 (by simp) S16x4x8064x128 (val_main_v24 (F := Ideal) x3 x4 x5) rfl rfl 0 (show (0 + 0 : ℕ) = 0 from rfl) (ix4 b h (⟨p.val, hp⟩ : Fin 8064) d) (piece_axes b h _ p d) (Nat.zero_add _)).trans ?_
    exact k_val x0 x1 x2 x3 x4 x5 x6 x7 x8 x9 x10 b h _ _
  · rename_i hp
    split
    · rename_i hp'
      refine (concatenate_apply_piece (2 : Fin S16x4x8193x128.rank) [⟨S16x4x8064x128, val_main_v24 (F := Ideal) x3 x4 x5⟩, ⟨S16x4x128x128, x9⟩, ⟨S16x4x1x128, val_main_v4 (F := Ideal) x1⟩] _ (ix4 b h p d) 1 (by simp) S16x4x128x128 (x9) rfl rfl 8064 (show (8064 + 0 : ℕ) = 8064 from rfl) (ix4 b h (⟨p.val - 8064, hp'⟩ : Fin 128) d) (piece_axes b h _ p d) (Nat.add_sub_of_le (Nat.le_of_not_lt hp))).trans ?_
      rfl
    · rename_i hp'
      refine (concatenate_apply_piece (2 : Fin S16x4x8193x128.rank) [⟨S16x4x8064x128, val_main_v24 (F := Ideal) x3 x4 x5⟩, ⟨S16x4x128x128, x9⟩, ⟨S16x4x1x128, val_main_v4 (F := Ideal) x1⟩] _ (ix4 b h p d) 2 (by simp) S16x4x1x128 (val_main_v4 (F := Ideal) x1) rfl rfl 8192 (show (8192 + 0 : ℕ) = 8192 from rfl) (ix4 b h (0 : Fin 1) d) (piece_axes b h _ p d) (show 8192 + 0 = p.val by omega)).trans ?_
      rw [val_main_v4_apply, val_main_v3_apply, show idx_main_v3 (ix4 b h (0 : Fin 1) d) = ix4 b 0 h d from ext4 _ _ _ _ _ rfl rfl rfl rfl]
      rfl

set_option maxRecDepth 20000 in
/-- The values of every position. -/
theorem val_val (p : Fin 8193) (d : Fin 128) :
    val_main_v44 (F := Ideal) x2 x6 x7 x8 x10 (ix4 b h p d) = (headOf x0 x1 x2 x3 x4 x5 x6 x7 x8 x9 x10 b h).val p.val d := by
  unfold val_main_v44 Head.val
  split
  · rename_i hp
    refine (concatenate_apply_piece (2 : Fin S16x4x8193x128.rank) [⟨S16x4x8064x128, val_main_v43 (F := Ideal) x6 x7 x8⟩, ⟨S16x4x128x128, x10⟩, ⟨S16x4x1x128, val_main_v6 (F := Ideal) x2⟩] _ (ix4 b h p d) 0 (by simp) S16x4x8064x128 (val_main_v43 (F := Ideal) x6 x7 x8) rfl rfl 0 (show (0 + 0 : ℕ) = 0 from rfl) (ix4 b h (⟨p.val, hp⟩ : Fin 8064) d) (piece_axes b h _ p d) (Nat.zero_add _)).trans ?_
    exact v_val x0 x1 x2 x3 x4 x5 x6 x7 x8 x9 x10 b h _ _
  · rename_i hp
    split
    · rename_i hp'
      refine (concatenate_apply_piece (2 : Fin S16x4x8193x128.rank) [⟨S16x4x8064x128, val_main_v43 (F := Ideal) x6 x7 x8⟩, ⟨S16x4x128x128, x10⟩, ⟨S16x4x1x128, val_main_v6 (F := Ideal) x2⟩] _ (ix4 b h p d) 1 (by simp) S16x4x128x128 (x10) rfl rfl 8064 (show (8064 + 0 : ℕ) = 8064 from rfl) (ix4 b h (⟨p.val - 8064, hp'⟩ : Fin 128) d) (piece_axes b h _ p d) (Nat.add_sub_of_le (Nat.le_of_not_lt hp))).trans ?_
      rfl
    · rename_i hp'
      refine (concatenate_apply_piece (2 : Fin S16x4x8193x128.rank) [⟨S16x4x8064x128, val_main_v43 (F := Ideal) x6 x7 x8⟩, ⟨S16x4x128x128, x10⟩, ⟨S16x4x1x128, val_main_v6 (F := Ideal) x2⟩] _ (ix4 b h p d) 2 (by simp) S16x4x1x128 (val_main_v6 (F := Ideal) x2) rfl rfl 8192 (show (8192 + 0 : ℕ) = 8192 from rfl) (ix4 b h (0 : Fin 1) d) (piece_axes b h _ p d) (show 8192 + 0 = p.val by omega)).trans ?_
      rw [val_main_v6_apply, val_main_v5_apply, show idx_main_v5 (ix4 b h (0 : Fin 1) d) = ix4 b 0 h d from ext4 _ _ _ _ _ rfl rfl rfl rfl]
      rfl

/-- The queries: eight rows for each key head. -/
theorem q_val (g : Fin 8) (d : Fin 128) : val_main_v2 (F := Ideal) x0 (ix5 b h g (0 : Fin 1) d) = (headOf x0 x1 x2 x3 x4 x5 x6 x7 x8 x9 x10 b h).q g d := by
  rw [val_main_v2_apply, val_main_v1_apply, val_main_v0_apply]
  refine congrArg x0 (funext fun a => Fin.ext (match a with
    | ⟨0, _⟩ => show ((((b.val * 1 + 0) * 4 + h.val) * 8 + g.val) * 128 + d.val) / 4096 = b.val by omega
    | ⟨1, _⟩ => rfl
    | ⟨2, _⟩ => show ((((b.val * 1 + 0) * 4 + h.val) * 8 + g.val) * 128 + d.val) % 4096 = 1024 * h.val + 128 * g.val + d.val by omega))

/-- The scaled scores. -/
theorem scaled_val (g : Fin 8) (p : Fin 8193) :
    val_main_v47 (F := Ideal) x0 x1 x3 x4 x5 x9 (ix5 b h g (0 : Fin 1) p) = (headOf x0 x1 x2 x3 x4 x5 x6 x7 x8 x9 x10 b h).scaled g p.val := by
  rw [val_main_v47_apply, val_main_v45_apply, val_main_v46_apply]
  refine congrArg₂ (fun u v : EReal => u * v) (Finset.sum_congr rfl fun d _ => ?_) rfl
  rw [show lidx_main_v45 (ix5 b h g (0 : Fin 1) p) d = ix5 b h g (0 : Fin 1) d from ext5 _ _ _ _ _ _ rfl rfl rfl rfl rfl,
    show ridx_main_v45 (ix5 b h g (0 : Fin 1) p) d = ix4 b h p d from ext4 _ _ _ _ _ rfl rfl rfl rfl,
    q_val x0 x1 x2 x3 x4 x5 x6 x7 x8 x9 x10, key_val x0 x1 x2 x3 x4 x5 x6 x7 x8 x9 x10]

/-- Every position lies at or before the last one. -/
theorem mask_true (i : S1x8193.Idx) : val_main_v55 (F := Ideal) i = 1#1 := by
  have hi : (i 1).val < 8193 := (i 1).isLt
  rw [val_main_v55_apply, val_main_v52_apply, val_main_v48_apply, val_main_v54_apply, val_main_v53_apply, val_main_v51_apply,
    val_main_v50_apply, val_main_v49_apply, val_main_c_3_apply]
  refine (WordCmp.cmpi_sle_ofNat (w := 32) (a := (i 1).val) (b := 8192) (by omega) (by decide)).trans ?_
  rw [decide_eq_true (by omega : (i 1).val ≤ 8192)]
  rfl

/-- The mask keeps every score. -/
theorem masked_val (g : Fin 8) (p : Fin 8193) :
    val_main_v56 (F := Ideal) x0 x1 x3 x4 x5 x9 (ix5 b h g (0 : Fin 1) p) = (headOf x0 x1 x2 x3 x4 x5 x6 x7 x8 x9 x10 b h).scaled g p.val := by
  rw [val_main_v56_apply, val_main_call0_v1_apply, mask_true, scaled_val x0 x1 x2 x3 x4 x5 x6 x7 x8 x9 x10]
  rfl

/-- The row's largest score. -/
theorem top_val (g : Fin 8) : val_main_v57 (F := Ideal) x0 x1 x3 x4 x5 x9 (ix4 b h g (0 : Fin 1)) = (headOf x0 x1 x2 x3 x4 x5 x6 x7 x8 x9 x10 b h).top g := by
  have hR : S16x4x8x1x8193.Reduces [4] S16x4x8x1 := by decide
  have e := hostReduce_maximumf_eq_multiReduction (F := Ideal) (φ := .f32) (val_main_v56 (F := Ideal) x0 x1 x3 x4 x5 x9) 0xFF800000#32
    reducesTo_S16x4x8x1x8193_S16x4x8x1_d4 h_S_ hR (by decide) (by decide)
  refine (congrFun e _).trans ((Ideal.multiReduction_maximumf_single _ _ hR _ _ _).trans ?_)
  have hf : val_main_v56 (F := Ideal) x0 x1 x3 x4 x5 x9 ∘ hR.lift (ix4 b h g (0 : Fin 1)) = fun p : Fin 8193 => (headOf x0 x1 x2 x3 x4 x5 x6 x7 x8 x9 x10 b h).scaled g p.val :=
    funext fun p => (congrArg (val_main_v56 (F := Ideal) x0 x1 x3 x4 x5 x9) (ext5 _ _ _ _ _ _ rfl rfl rfl rfl rfl)).trans (masked_val x0 x1 x2 x3 x4 x5 x6 x7 x8 x9 x10 b h g p)
  rw [hf]
  rfl

/-- The weights. -/
theorem weight_val (g : Fin 8) (p : Fin 8193) :
    val_main_v61 (F := Ideal) x0 x1 x3 x4 x5 x9 (ix5 b h g (0 : Fin 1) p) = (headOf x0 x1 x2 x3 x4 x5 x6 x7 x8 x9 x10 b h).weight g p.val := by
  rw [val_main_v61_apply, val_main_v60_apply, masked_val x0 x1 x2 x3 x4 x5 x6 x7 x8 x9 x10, val_main_v59_apply, val_main_v58_apply,
    show idx_main_v58 (idx_main_v59 (ix5 b h g (0 : Fin 1) p)) = ix4 b h g (0 : Fin 1) from ext4 _ _ _ _ _ rfl rfl rfl rfl,
    top_val x0 x1 x2 x3 x4 x5 x6 x7 x8 x9 x10]
  rfl

/-- The sum of the weights. -/
theorem den_val (g : Fin 8) : val_main_v62 (F := Ideal) x0 x1 x3 x4 x5 x9 (ix4 b h g (0 : Fin 1)) = (headOf x0 x1 x2 x3 x4 x5 x6 x7 x8 x9 x10 b h).den g := by
  rw [val_main_v62_apply, val_main_cst_6_apply]
  refine (congrArg (fun u : EReal => u + _) Ideal.ofBits_zero_f32).trans ((zero_add _).trans (Finset.sum_congr rfl fun p _ => ?_))
  rw [show idx_main_v62 (ix4 b h g (0 : Fin 1)) p = ix5 b h g (0 : Fin 1) p from ext5 _ _ _ _ _ _ rfl rfl rfl rfl rfl]
  exact weight_val x0 x1 x2 x3 x4 x5 x6 x7 x8 x9 x10 b h g p

/-- The weighted sum of the values. -/
theorem num_val (g : Fin 8) (d : Fin 128) :
    val_main_v65 (F := Ideal) x0 x1 x2 x3 x4 x5 x6 x7 x8 x9 x10 (ix5 b h g (0 : Fin 1) d) = (headOf x0 x1 x2 x3 x4 x5 x6 x7 x8 x9 x10 b h).num g d := by
  rw [val_main_v65_apply]
  refine Finset.sum_congr rfl fun p _ => ?_
  rw [val_main_v64_apply,
    show lidx_main_v65 (ix5 b h g (0 : Fin 1) d) p = ix5 b h g (0 : Fin 1) p from ext5 _ _ _ _ _ _ rfl rfl rfl rfl rfl,
    show ridx_main_v65 (ix5 b h g (0 : Fin 1) d) p = ix4 b h p d from ext4 _ _ _ _ _ rfl rfl rfl rfl]
  exact congrArg₂ (fun u v : EReal => u * v) (weight_val x0 x1 x2 x3 x4 x5 x6 x7 x8 x9 x10 b h g p) (val_val x0 x1 x2 x3 x4 x5 x6 x7 x8 x9 x10 b h p d)

/-- The reference's first result, at a batch, a head, a query row and a lane: the attention of that head. -/
theorem ref_out (g : Fin 8) (d : Fin 128) :
    val_main_v69 (F := Ideal) x0 x1 x2 x3 x4 x5 x6 x7 x8 x9 x10 (ix3 b (0 : Fin 1) (⟨1024 * h.val + 128 * g.val + d.val, by omega⟩ : Fin 4096))
      = (headOf x0 x1 x2 x3 x4 x5 x6 x7 x8 x9 x10 b h).out g d := by
  rw [val_main_v69_apply, val_main_v68_apply, val_main_v67_apply, val_main_v66_apply, val_main_v63_apply]
  have hj : idx_main_v68 (idx_main_v69 (ix3 b (0 : Fin 1) (⟨1024 * h.val + 128 * g.val + d.val, by omega⟩ : Fin 4096))) = ix5 b h g (0 : Fin 1) d :=
    ext5 _ _ _ _ _ _ (show ((b.val * 1 + 0) * 4096 + (1024 * h.val + 128 * g.val + d.val)) / 4096 = b.val by omega)
      (show ((b.val * 1 + 0) * 4096 + (1024 * h.val + 128 * g.val + d.val)) / 1024 % 4 = h.val by omega)
      (show ((b.val * 1 + 0) * 4096 + (1024 * h.val + 128 * g.val + d.val)) / 128 % 8 = g.val by omega) rfl
      (show ((b.val * 1 + 0) * 4096 + (1024 * h.val + 128 * g.val + d.val)) % 128 = d.val by omega)
  rw [hj, num_val x0 x1 x2 x3 x4 x5 x6 x7 x8 x9 x10, show idx_main_v63 (idx_main_v66 (ix5 b h g (0 : Fin 1) d)) = ix4 b h g (0 : Fin 1) from ext4 _ _ _ _ _ rfl rfl rfl rfl]
  exact congrArg (Ideal.div _) (den_val x0 x1 x2 x3 x4 x5 x6 x7 x8 x9 x10 b h g)

end Cert.Attn

end
-- ==== Proof.Attn.Algebraic.lean ====
/- The kernel's results are the reference's. -/
module

public import proofs.«01_k».proof.Defs
public import proofs.«01_k».proof.Proof.Attn.Arrays
public import proofs.«01_k».proof.Proof.Attn.Ref
public import proofs.«01_k».proof.Proof.Gen.ReferenceIdeal.Run
public import Idealize.ShloMosaic.Lib.Claim

@[expose] public section

noncomputable section

namespace Cert.Attn

open Idealize.ShloMosaic Idealize.ShloMosaic.ValueIdx Idealize.SL.Sem
open Cert.KernelIdeal Cert.KernelIdeal.Body Cert.KernelIdeal.Gen

variable (m : (ℓ : Loc nD τ sig) → Buf (Elt Ideal) ℓ) (c : Dev nD)

/-- The reference's first result, of the kernel's arguments, is the kernel's. -/
theorem first_eq : Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    = shapeCast S16x1x4096 (G11 m c) shapeCasts_S16x32x128_S16x1x4096 := by
  funext x
  obtain ⟨b, z, ⟨n, hn⟩, rfl⟩ := ix3_eta (n0 := 16) (n1 := 1) (n2 := 4096) x
  obtain rfl : z = 0 := Subsingleton.elim _ _
  have e : (⟨n, hn⟩ : Fin 4096) = ⟨1024 * (n / 1024) + 128 * (n / 128 % 8) + n % 128, by omega⟩ :=
    Fin.ext (by show n = 1024 * (n / 1024) + 128 * (n / 128 % 8) + n % 128; omega)
  rw [e]
  refine (ref_out _ _ _ _ _ _ _ _ _ _ _ b (⟨n / 1024, by omega⟩ : Fin 4) (⟨n / 128 % 8, by omega⟩ : Fin 8) (⟨n % 128, by omega⟩ : Fin 128)).trans ?_
  refine (G11_apply m c b (⟨n / 1024, by omega⟩ : Fin 4) (⟨n / 128 % 8, by omega⟩ : Fin 8) (⟨n % 128, by omega⟩ : Fin 128)).symm.trans ?_
  refine (shapeCast_apply (G11 m c) shapeCasts_S16x32x128_S16x1x4096 _ _ ?_).symm
  rw [Shape.rowMajor_val_three, Shape.rowMajor_val_three]
  show (b.val * 32 + (8 * (n / 1024) + n / 128 % 8)) * 128 + n % 128 = (b.val * 1 + 0) * 4096 + (1024 * (n / 1024) + 128 * (n / 128 % 8) + n % 128)
  omega

/-- New rows reach the result in the reference's order. -/
theorem rows_eq (x : Vec Ideal S16x1x4x128 .f32) (hT : S16x1x4x128.Transposes [0, 2, 1, 3] S16x4x1x128) (hb : FTy.bits .bf16 < FTy.bits .f32) :
    (truncf .bf16 (transpose S16x4x1x128 [0, 2, 1, 3] x hT : FVec Ideal S16x4x1x128 .f32) hb : S16x4x1x128.Idx → EReal)
      = shapeCast S16x4x1x128 (shapeCast S16x4x128 x shapeCasts_S16x1x4x128_S16x4x128) shapeCasts_S16x4x128_S16x4x1x128 := by
  funext y
  obtain ⟨b, h, z, d, rfl⟩ : ∃ b h z d, y = (ix4 b h z d : S16x4x1x128.Idx) := ⟨y 0, y 1, y 2, y 3, ext4 _ _ _ _ _ rfl rfl rfl rfl⟩
  obtain rfl : z = 0 := Subsingleton.elim _ _
  refine Eq.trans (b := x (ix4 b (0 : Fin 1) h d)) ?_ ?_
  · refine transpose_apply _ x hT _ _ fun a => ?_
    match a with
    | ⟨0, _⟩ => rfl
    | ⟨1, _⟩ => rfl
    | ⟨2, _⟩ => rfl
    | ⟨3, _⟩ => rfl
  · refine ((shapeCast_apply _ shapeCasts_S16x4x128_S16x4x1x128 (ix4 b h (0 : Fin 1) d) (ix3 b h d) ?_).trans (new_apply x b h d)).symm
    rw [Shape.rowMajor_val_four, Shape.rowMajor_val_three]
    show (b.val * 4 + h.val) * 128 + d.val = ((b.val * 4 + h.val) * 1 + 0) * 128 + d.val
    omega

/-- The kernel and the reference end with the same three results and their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => shapeCast S16x1x4096 (G11 m c) shapeCasts_S16x32x128_S16x1x4096,
    fun c => shapeCast S16x4x1x128 (G12 m c) shapeCasts_S16x4x128_S16x4x1x128,
    fun c => shapeCast S16x4x1x128 (G13 m c) shapeCasts_S16x4x128_S16x4x1x128, ?_, ?_⟩
  · exact (θ_run _ _ _).mono (fun _ h c =>
      ⟨((h.1.1 c).2 main_v12 (Pipeline.mem_restRefs_of main_v12 (by decide) (by decide))).trans (res12 m c),
        ((h.1.1 c).2 main_v13 (Pipeline.mem_restRefs_of main_v13 (by decide) (by decide))).trans (res13 m c),
        ((h.1.1 c).2 main_v14 (Pipeline.mem_restRefs_of main_v14 (by decide) (by decide))).trans (res14 m c), h.2.1 c⟩)
      (θ_run_and (run_main m g) (Cert.KernelIdeal.Body.frame m g))
  · refine (θ_run _ _ _).mono (fun _ h c => ?_) (Cert.ReferenceIdeal.Value.run m' g')
    obtain ⟨h0, h1, h2, h3, h4, h5, h6, h7, h8, h9, h10⟩ := hargs c
    refine ⟨(h c).1.trans ?_, (h c).2.1.trans ?_, (h c).2.2.1.trans ?_, (h c).2.2.2⟩
    · rw [Cert.ReferenceIdeal.Read.val_main_v69_eq, h0, h1, h2, h3, h4, h5, h6, h7, h8, h9, h10]
      exact first_eq m c
    · rw [h1]
      exact rows_eq _ _ _
    · rw [h2]
      exact rows_eq _ _ _

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Attn.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the reference, at every instance and at the extended reals, end at rest with their arguments unchanged.
    The idealised kernel is the printed one with no rewriting, so `preserves` has nothing to show. Over the extended reals
    the kernel's three results are the reference's. -/
theorem claim : Cert.Claim := ⟨Cert.Kernel.Gen.facts, Cert.KernelIdeal.Gen.facts, Cert.ReferenceIdeal.Gen.facts,
  fun m g _ => Cert.Kernel.Body.frame m g, fun m g _ => Cert.KernelIdeal.Body.frame m g,
  fun m g _ => (θ_run _ _ _).mono (fun r h => ⟨fun c => (h c).2.2.2, sem_eq_zero_of_no_sems rfl _⟩) (Cert.ReferenceIdeal.Value.run m g), trivial, Cert.Attn.algebraic⟩

end Cert.Proof

end
